-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_m" .f32 0x392AAAAB#32 ((6144⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S1x768 : Shape := ⟨2, ![1, 768]⟩
abbrev S384x768 : Shape := ⟨2, ![384, 768]⟩
abbrev S4x1x768 : Shape := ⟨3, ![4, 1, 768]⟩
abbrev S4 : Shape := ⟨1, ![4]⟩
abbrev S_ : Shape := ⟨0, ![]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S384x768, .f32⟩
  | .local _ .vmem, ⟨1, _⟩ => ⟨S384x768, .f32⟩
  | .local _ .vmem, ⟨2, _⟩ => ⟨S1x768, .f32⟩
  | .local _ .vmem, ⟨3, _⟩ => ⟨S4x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v20 : BitVec 32 := Scalar.addi v2 c1_i32_7
  let c4_i32_8 : BitVec 32 := 4#32
  let v21 : BitVec 32 := Scalar.remsi v20 c4_i32_8
  let c1_i32_10 : BitVec 32 := 1#32
  let v22 : BitVec 32 := Scalar.muli v21 c1_i32_10
  let v23 : BitVec 32 := Scalar.addi c0_i32_11 v22
  v23.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v24 : BitVec 32 := Scalar.addi v2 c2_i32
  let c4_i32_12 : BitVec 32 := 4#32
  let v25 : BitVec 32 := Scalar.remsi v24 c4_i32_12
  let c1_i32_14 : BitVec 32 := 1#32
  let v26 : BitVec 32 := Scalar.muli v25 c1_i32_14
  let v27 : BitVec 32 := Scalar.addi c0_i32_15 v26
  v27.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_16 : BitVec 32 := 3#32
  let v28 : BitVec 32 := Scalar.addi v2 c3_i32_16
  let c4_i32_17 : BitVec 32 := 4#32
  let v29 : BitVec 32 := Scalar.remsi v28 c4_i32_17
  let c1_i32_19 : BitVec 32 := 1#32
  let v30 : BitVec 32 := Scalar.muli v29 c1_i32_19
  let v31 : BitVec 32 := Scalar.addi c0_i32_20 v30
  v31.toNat
def k0_cond4 (i : grid0.Coords) : BitVec 1 :=
  let arg0 : BitVec 32 := BitVec.ofNat 32 (i 0).val
  let c3_i32 : BitVec 32 := 3#32
  let v17 : BitVec 1 := Scalar.cmpi .eq arg0 c3_i32
  let v18 : BitVec 32 := Scalar.extui v17
  let c0_i32_6 : BitVec 32 := 0#32
  let v19 : BitVec 1 := Scalar.cmpi .ne v18 c0_i32_6
  v19

def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v20 : BitVec 32 := Scalar.addi v2 c1_i32_8
  let c4_i32_9 : BitVec 32 := 4#32
  let v21 : BitVec 32 := Scalar.remsi v20 c4_i32_9
  let c1_i32_14 : BitVec 32 := 1#32
  let v22 : BitVec 32 := Scalar.muli v21 c1_i32_14
  let v23 : BitVec 32 := Scalar.addi c0_i32_15 v22
  v23.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v32 : BitVec 32 := Scalar.addi v2 c2_i32
  let c4_i32_20 : BitVec 32 := 4#32
  let v33 : BitVec 32 := Scalar.remsi v32 c4_i32_20
  let c1_i32_25 : BitVec 32 := 1#32
  let v34 : BitVec 32 := Scalar.muli v33 c1_i32_25
  let v35 : BitVec 32 := Scalar.addi c0_i32_26 v34
  v35.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_31 : BitVec 32 := 3#32
  let v44 : BitVec 32 := Scalar.addi v2 c3_i32_31
  let c4_i32_32 : BitVec 32 := 4#32
  let v45 : BitVec 32 := Scalar.remsi v44 c4_i32_32
  let c1_i32_37 : BitVec 32 := 1#32
  let v46 : BitVec 32 := Scalar.muli v45 c1_i32_37
  let v47 : BitVec 32 := Scalar.addi c0_i32_38 v46
  v47.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "inv_m" => some ((6144⁻¹ : ℝ) : EReal)
  | _ => none
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 7
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | .hbm, ⟨4, _⟩ => ⟨S_, .f32⟩
  | .hbm, ⟨5, _⟩ => ⟨S1x768, .f32⟩
  | .hbm, ⟨6, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.IdealProtocol.lean ====
/-
The protocol by which the four devices exchange their column sums.

Device `c` adds up its own rows into slot 0 of a four-slot scratch buffer. It then sends slot 0 to each other
device. The device `j + 1` places after `c` (`fwd j c`, `j = 0, 1, 2`) receives it in the slot numbered by how far
`c` lies after that device, so that slot `k + 1` of device `c` always holds the sum of device `fwd k c`.

Before a device may write into another's slot it waits on its own barrier semaphore for three units, one from each
other device. The unit from a device carries the right to write the slot of that device which this one fills.
This file fixes the cells of that protocol, what each unit is worth, what each device owes at the start, and the
order (`lv`) in which waits may depend on each other.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## Ghost state: the pipeline's rounds and the exchange's -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## Who is addressed by whom -/

set_option backward.proofsInPublic true in
/-- The device `j + 1` places after `c`, counting around the four. -/
def fwd (j : Fin 3) (c : Dev nD) : Dev nD := ⟨(c.val + j.val + 1) % 4, Nat.mod_lt _ (by decide)⟩

/-- Seen from the device `j + 1` places after `c`, device `c` lies `opp j + 1` places after. -/
def opp (j : Fin 3) : Fin 3 := j.rev

theorem opp_opp (j : Fin 3) : opp (opp j) = j := Fin.rev_rev j
theorem fwd_opp_fwd (j : Fin 3) (c : Dev nD) : fwd (opp j) (fwd j c) = c := by revert j c; decide
theorem fwd_fwd_opp (j : Fin 3) (c : Dev nD) : fwd j (fwd (opp j) c) = c := by revert j c; decide
theorem fwd_eq_iff (j : Fin 3) (d c : Dev nD) : fwd j d = c ↔ d = fwd (opp j) c := by revert j d c; decide

/-- Moving every device `j + 1` places on is a permutation of them. -/
def turn (j : Fin 3) : Dev nD ≃ Dev nD := ⟨fwd j, fwd (opp j), fwd_opp_fwd j, fwd_fwd_opp j⟩

/-- The kernel's address computations name these devices. -/
theorem dev1_eq (c : Dev nD) (h) : (⟨k0_dev1 c, h⟩ : Dev nD) = fwd 0 c := Fin.ext (k0_dev1_eq c)
theorem dev2_eq (c : Dev nD) (h) : (⟨k0_dev2 c, h⟩ : Dev nD) = fwd 1 c := Fin.ext (k0_dev2_eq c)
theorem dev3_eq (c : Dev nD) (h) : (⟨k0_dev3 c, h⟩ : Dev nD) = fwd 2 c := Fin.ext (k0_dev3_eq c)
theorem dev4_eq (c : Dev nD) (h) : (⟨k0_dev4 c, h⟩ : Dev nD) = fwd 0 c := Fin.ext (k0_dev4_eq c)
theorem dev5_eq (c : Dev nD) (h) : (⟨k0_dev5 c, h⟩ : Dev nD) = fwd 1 c := Fin.ext (k0_dev5_eq c)
theorem dev6_eq (c : Dev nD) (h) : (⟨k0_dev6 c, h⟩ : Dev nD) = fwd 2 c := Fin.ext (k0_dev6_eq c)

/-! ## The slots of the scratch buffer -/

abbrev scrM : Memref sig .tc .vmem S4x1x768 .f32 := Memref.whole cc0_scratch0

theorem slot_inb (k : Fin 4) : ∀ a, (![k.val, 0, 0] : Fin 3 → Nat) a + S1x1x768.size a ≤ S4x1x768.size a := by
  revert k; decide

/-- The elements of slot `k`, as a rectangle of the buffer -/
abbrev slotR (k : Fin 4) : Rect S4x1x768 := Rect.unit (s := S4x1x768) ![k.val, 0, 0] S1x1x768.size (slot_inb k)
/-- and as a transfer addresses them. -/
abbrev slotM (k : Fin 4) : Memref sig .tc .vmem S1x768 .f32 :=
  (scrM.slice (slotR k) (fun _ => rfl)).squeeze S1x768 squeezes_S1x1x768_S1x768

theorem slotM_set (k : Fin 4) : (slotM k).view.set = (slotR k).set :=
  (View.set_reshape ((View.whole cc0_scratch0).slice (slotR k)) _).trans (View.set_slice_whole cc0_scratch0 (slotR k))

/-- An element lies in slot `k` exactly if its first coordinate is `k`. -/
theorem mem_slot (k : Fin 4) (i : S4x1x768.Idx) : i ∈ (slotR k).set ↔ i 0 = k := by
  rw [LoadRect.mem_set]
  constructor
  · intro h
    obtain ⟨j, hj, e⟩ := h 0
    have hj' : j < 1 := hj
    have e' : (i 0).val = k.val + 1 * j := e
    exact Fin.ext (by omega)
  · rintro rfl a
    fin_cases a
    · exact ⟨0, Nat.one_pos, rfl⟩
    · exact ⟨(i 1).val, (i 1).isLt, (by omega : (i 1).val = 0 + 1 * (i 1).val)⟩
    · exact ⟨(i 2).val, (i 2).isLt, (by omega : (i 2).val = 0 + 1 * (i 2).val)⟩

theorem slots_disjoint {k k' : Fin 4} (h : k ≠ k') : Disjoint (slotR k).set (slotR k').set :=
  Finset.disjoint_left.mpr fun i hi hi' => h (((mem_slot k i).mp hi).symm.trans ((mem_slot k' i).mp hi'))

/-- The four slots are the whole buffer. -/
theorem slots_cover : (Finset.univ : Finset (Fin 4)).biUnion (fun k => (slotR k).set) = Finset.univ := by
  refine Finset.eq_univ_of_forall fun i => Finset.mem_biUnion.mpr ⟨i 0, Finset.mem_univ _, (mem_slot (i 0) i).mpr rfl⟩

/-- The place within a slot of an element of the buffer. -/
def within (i : S4x1x768.Idx) : S1x1x768.Idx
  | ⟨0, _⟩ => ⟨0, Nat.one_pos⟩
  | ⟨1, _⟩ => i 1
  | ⟨2, _⟩ => i 2

theorem within_emb (k : Fin 4) (x : S1x1x768.Idx) : within ((slotR k).emb x) = x := by
  funext a; refine Fin.ext ?_
  fin_cases a
  · have h0 : (x 0).val < 1 := (x 0).isLt
    show 0 = (x 0).val; omega
  · show 0 + 1 * (x 1).val = (x 1).val; omega
  · show 0 + 1 * (x 2).val = (x 2).val; omega

/-- Buffer contents in which every slot holds `w`. Only one slot of them is ever looked at. -/
def fill (w : Vec F S1x1x768 .f32) : S4x1x768.Idx → Elt F .f32 := fun i => w (within i)

/-- Loading slot `k` of them gives `w`. -/
theorem load_fill (k : Fin 4) (w : Vec F S1x1x768 .f32) :
    scrM.view.readAt (Elt F) (slotR k).toLoadRect (fill w) = w := by
  funext x
  exact congrArg w (within_emb k x)

/-- Storing `w` in slot `k` makes the slot's elements those of `fill w`. -/
theorem store_fill (k : Fin 4) (f : S4x1x768.Idx → Elt F .f32) (w : Vec F S1x1x768 .f32) :
    ∀ i ∈ (slotR k).set, (scrM.access (slotR k)).write (Elt F) f w Finset.univ i = fill w i := by
  intro i hi
  obtain ⟨x, rfl⟩ := LoadRect.exists_idx_of_mem _ hi
  exact (View.write_emb_of_mem (v := scrM.access (slotR k)) f w (Finset.mem_univ x)).trans (congrArg w (within_emb k x)).symm

/-- A transfer of slot `k` of `fill w` to slot `k'` makes that slot's elements those of `fill w`. -/
theorem copy_fill (k k' : Fin 4) (f : S4x1x768.Idx → Elt F .f32) (w : Vec F S1x1x768 .f32) :
    ∀ i ∈ (slotR k').set,
      (slotM k').view.write (Elt F) f ((slotM k).view.read (Elt F) (fill w)) Finset.univ i = fill w i := by
  intro i hi
  rw [← slotM_set, View.set, Finset.mem_map] at hi
  obtain ⟨y, -, rfl⟩ := hi
  refine (View.write_emb_of_mem (v := (slotM k').view) f _ (Finset.mem_univ y)).trans ?_
  exact (congrArg w (within_emb k _)).trans (congrArg w (within_emb k' _)).symm

/-- Device `c` holds the share `q` of slot `k`, which contains `w`. -/
def slotIs (c : Dev nD) (k : Fin 4) (q : PosShare TreeShare) (w : Vec F S1x1x768 .f32) : sProp 𝕄 :=
  (c : Thread nD τ).loc cc0_scratch0 ↦[(slotR k).set]{q} fill w
/-- Device `c` holds slot `k` outright, whatever it contains. -/
def slotAny (c : Dev nD) (k : Fin 4) : sProp 𝕄 :=
  iprop(∃ f : Buf (Elt F) ((c : Thread nD τ).loc cc0_scratch0), (c : Thread nD τ).loc cc0_scratch0 ↦[(slotR k).set]{fullShare} f)

omit [FloatOps F] [Named F] in
instance slotIs_storable (c : Dev nD) (k) (q) (w) : BI.Storable (upEmb : UEmb _ 𝕄) (slotIs (F := F) c k q w) := by
  unfold slotIs; infer_instance
omit [FloatOps F] [Named F] in
instance slotAny_storable (c : Dev nD) (k) : BI.Storable (upEmb : UEmb _ 𝕄) (slotAny (F := F) c k) := by
  unfold slotAny; infer_instance

omit [FloatOps F] [Named F] in
theorem slotIs_any (c : Dev nD) (k : Fin 4) (w : Vec F S1x1x768 .f32) : slotIs c k fullShare w ⊢ slotAny (F := F) c k := by
  unfold slotIs slotAny
  iintro H; iexists _; iexact H

omit [FloatOps F] [Named F] in
theorem scratch_eq (c : Dev nD) (f : Buf (Elt F) ((c : Thread nD τ).loc cc0_scratch0)) :
    ((c : Thread nD τ).loc cc0_scratch0 ↦{fullShare} f : sProp 𝕄)
      = bigSep Finset.univ fun k : Fin 4 => (c : Thread nD τ).loc cc0_scratch0 ↦[(slotR k).set]{fullShare} f := by
  rw [← pointsTo_biUnion (ℓ := (c : Thread nD τ).loc cc0_scratch0) Finset.univ (fun k : Fin 4 => (slotR k).set)
    fun k _ k' _ h => slots_disjoint h]
  exact congrArg (fun S => ((c : Thread nD τ).loc cc0_scratch0 ↦[S]{fullShare} f : sProp 𝕄)) slots_cover.symm

omit [FloatOps F] [Named F] in
/-- The scratch buffer, whole, is its four slots. -/
theorem scratch_split (c : Dev nD) :
    iprop(∃ f : Buf (Elt F) ((c : Thread nD τ).loc cc0_scratch0), (c : Thread nD τ).loc cc0_scratch0 ↦{fullShare} f)
      ⊢ (bigSep Finset.univ fun k : Fin 4 => slotAny c k : sProp 𝕄) := by
  have hm (f : Buf (Elt F) ((c : Thread nD τ).loc cc0_scratch0)) :
      ((c : Thread nD τ).loc cc0_scratch0 ↦{fullShare} f : sProp 𝕄) ⊢ bigSep Finset.univ fun k : Fin 4 => slotAny c k := by
    rw [scratch_eq]
    refine bigSep_mono fun k _ => ?_
    show ((c : Thread nD τ).loc cc0_scratch0 ↦[(slotR k).set]{fullShare} f : sProp 𝕄) ⊢ slotAny c k
    unfold slotAny; iintro H; iexists f; iexact H
  iintro ⟨%f, H⟩
  iapply (hm f)
  iexact H

/-- The four slots together are the scratch buffer. -/
theorem scratch_join (c : Dev nD) :
    (bigSep Finset.univ fun k : Fin 4 => slotAny c k : sProp 𝕄)
      ⊢ iprop(∃ f : Buf (Elt F) ((c : Thread nD τ).loc cc0_scratch0), (c : Thread nD τ).loc cc0_scratch0 ↦{fullShare} f) := by
  haveI : Nonempty (Buf (Elt F) ((c : Thread nD τ).loc cc0_scratch0)) := ⟨fun _ => Classical.arbitrary _⟩
  unfold slotAny
  iintro H
  ihave H' := (BI.bigSep_exists_pi Finset.univ (fun (k : Fin 4) (f : Buf (Elt F) ((c : Thread nD τ).loc cc0_scratch0)) =>
    ((c : Thread nD τ).loc cc0_scratch0 ↦[(slotR k).set]{fullShare} f : sProp 𝕄))) $$ H
  icases H' with ⟨%fs, H⟩
  ihave H'' := (pointsTo_biUnion_join (ℓ := (c : Thread nD τ).loc cc0_scratch0) Finset.univ (fun k : Fin 4 => (slotR k).set) fs (fs 0)
    fun k _ k' _ h => slots_disjoint h) $$ H
  icases H'' with ⟨%g, -, H⟩
  iexists g
  iapply (Entails.of_eq (congrArg (fun S => ((c : Thread nD τ).loc cc0_scratch0 ↦[S]{fullShare} g : sProp 𝕄)) slots_cover))
  iexact H

/-- The three transfers of slot 0 read it at once, each at its own share. -/
def share : Fin 3 → PosShare TreeShare := ![fullShare.left, fullShare.right.left, fullShare.right.right]

omit [FloatOps F] [Named F] in
theorem slotIs_shares (c : Dev nD) (k : Fin 4) (w : Vec F S1x1x768 .f32) :
    slotIs c k fullShare w = iprop(slotIs c k (share 0) w ∗ slotIs c k (share 1) w ∗ slotIs c k (share 2) w : sProp 𝕄) := by
  unfold slotIs
  have h (q : PosShare TreeShare) := pointsTo_share (ℓ := (c : Thread nD τ).loc cc0_scratch0) (I := (slotR k).set) (f := fill w)
    (Ix := Unit) (Name := ℕ) (U := UU) (Lvl := ℕ) (PosShare.mem_left_op_right q)
  rw [BI.equiv_iff.mp ⟨(h fullShare).1, (h fullShare).2⟩, BI.equiv_iff.mp ⟨(h fullShare.right).1, (h fullShare.right).2⟩]
  rfl

/-! ## What the devices compute -/

set_option backward.proofsInPublic true in
/-- The grid's points, counted around. -/
def pt (n : ℕ) : Fin cfg0.N := ⟨n % 4, by have : cfg0.N = 4 := N_0; rw [this]; exact Nat.mod_lt _ (by decide)⟩

/-- Device `c`'s rows at point `t`: 384 of them. -/
def rows (c : Dev nD) (t : Fin cfg0.N) : Vec F S384x768 .f32 := iblk m c 0 t

/-- The column sums of device `c`'s rows up to and including those of point `n`. -/
def upTo (c : Dev nD) : ℕ → Vec F S1x1x768 .f32
  | 0 => k0_pay2 (rows m c (pt 0))
  | n + 1 => k0_pay3 (rows m c (pt (n + 1))) (upTo c n)

/-- The column sums of all device `c`'s rows. -/
def total (c : Dev nD) : Vec F S1x1x768 .f32 := upTo m c 3

/-- The result on device `c`: the four devices' sums added, its own first, times the constant. -/
def result (c : Dev nD) : Vec F S1x768 .f32 :=
  k0_pay4 (total m c) (total m (fwd 0 c)) (total m (fwd 1 c)) (total m (fwd 2 c))

/-! ## The cells -/

abbrev barS : Sem sig := (SemArray.scalar (sig.barrier 0 rfl) : Sems sig S_).sem
set_option backward.proofsInPublic true in
/-- The semaphore on which the transfer to the device `j + 1` places after completes at its sender, -/
def sndS (j : Fin 3) : DmaSem sig := ⟨4 + j.val, by have := j.isLt; show 4 + j.val < 11; omega⟩
set_option backward.proofsInPublic true in
/-- and the one on which the transfer into slot `k + 1` completes at its receiver. -/
def rcvS (k : Fin 3) : DmaSem sig := ⟨8 + k.val, by have := k.isLt; show 8 + k.val < 11; omega⟩

abbrev barCell (c : Dev nD) : GSem nD τ sig := ((c : Thread nD τ), .reg barS)
abbrev sndCell (c : Dev nD) (j : Fin 3) : GSem nD τ sig := ((c : Thread nD τ), .dma (sndS j))
abbrev rcvCell (c : Dev nD) (k : Fin 3) : GSem nD τ sig := ((c : Thread nD τ), .dma (rcvS k))

/-- What a transfer of one slot is worth. -/
abbrev N : ℕ := (slotM 0).view.dmaCredit
theorem N_pos : 0 < N := View.dmaCredit_pos _ (by decide)

/-! ## The schedule -/

/-- With the unit for its duty `j` a device receives from the one which has it `j + 1` places after itself the right
    to write that device's slot `j + 1`. -/
def barPay (c : Dev nD) (j : Fin 3) : sProp 𝕄 := slotAny (fwd (opp j) c) j.succ
/-- When its transfer completes a device has back the share of slot 0 the transfer read. -/
def sndPay (c : Dev nD) (j : Fin 3) : sProp 𝕄 := slotIs c 0 (share j) (total m c)
/-- When slot `k + 1` has been filled a device has it, with the sum of the device `k + 1` places after. -/
def rcvPay (c : Dev nD) (k : Fin 3) : sProp 𝕄 := slotIs c k.succ fullShare (total m (fwd k c))

/-- A cell's payload for duty `d`, by the cell's semaphore. -/
def payOf (c : Dev nD) (d : Fin 3) : SemLoc sig → sProp 𝕄
  | .reg _ => barPay c d
  | .dma q =>
    if h : 8 ≤ q.val ∧ q.val < 11 then rcvPay m c ⟨q.val - 8, by omega⟩
    else if h : 4 ≤ q.val ∧ q.val < 7 then sndPay m c ⟨q.val - 4, by omega⟩
    else iprop(emp)

/-- The duties of a cell by its semaphore: a barrier's three, a transfer's one. -/
def dutiesOf : SemLoc sig → Finset (Fin 3)
  | .reg s => if s = barS then Finset.univ else ∅
  | .dma q => if (8 ≤ q.val ∧ q.val < 11) ∨ (4 ≤ q.val ∧ q.val < 7) then {0} else ∅

def amountOf' : SemLoc sig → ℕ
  | .reg _ => 1
  | .dma _ => N

/-- The exchange's schedule: one round, the duties, worths and payloads above. -/
def sched : Rounds.Schedule (GSem nD τ sig) (Fin 3) 𝕄 where
  duties g r := if r = 0 ∧ g.1.2 = .tc then dutiesOf g.2 else ∅
  unitless _ := False
  amount g _ _ := amountOf' g.2
  payload g _ d := payOf m g.1.1 d g.2
  amount_pos g _ _ _ := by
    cases h : g.2 with
    | reg s => exact Nat.one_pos
    | dma q => exact N_pos

instance sched_payload_storable (g : GSem nD τ sig) (r : ℕ) (d : Fin 3) :
    BI.Storable (upEmb : UEmb _ 𝕄) ((sched (F := F) m).payload g r d) := by
  show BI.Storable upEmb (payOf m g.1.1 d g.2)
  unfold payOf barPay rcvPay sndPay
  split
  · infer_instance
  · (repeat' split) <;> infer_instance

section Sched
variable (c : Dev nD) (j : Fin 3)

theorem duties_bar : (sched (F := F) m).duties (barCell c) 0 = Finset.univ := rfl
theorem duties_snd : (sched (F := F) m).duties (sndCell c j) 0 = {0} := by fin_cases j <;> rfl
theorem duties_rcv : (sched (F := F) m).duties (rcvCell c j) 0 = {0} := by fin_cases j <;> rfl
theorem duties_later (g : GSem nD τ sig) : ∀ r, 1 ≤ r → (sched (F := F) m).duties g r = ∅ :=
  fun r hr => if_neg fun h => by omega

theorem amount_bar (d : Fin 3) : (sched (F := F) m).amount (barCell c) 0 d = 1 := rfl
theorem amount_snd (d : Fin 3) : (sched (F := F) m).amount (sndCell c j) 0 d = N := rfl
theorem amount_rcv (d : Fin 3) : (sched (F := F) m).amount (rcvCell c j) 0 d = N := rfl

theorem expect_bar : (sched (F := F) m).expect (barCell c) 0 = 3 := by
  unfold Schedule.expect Schedule.amountOf
  rw [duties_bar, Finset.sum_congr rfl fun d _ => amount_bar m c d]; rfl
theorem expect_snd : (sched (F := F) m).expect (sndCell c j) 0 = N := by
  unfold Schedule.expect Schedule.amountOf; rw [duties_snd, Finset.sum_singleton, amount_snd]
theorem expect_rcv : (sched (F := F) m).expect (rcvCell c j) 0 = N := by
  unfold Schedule.expect Schedule.amountOf; rw [duties_rcv, Finset.sum_singleton, amount_rcv]

theorem payload_bar (d : Fin 3) : (sched (F := F) m).payload (barCell c) 0 d = barPay c d := rfl
theorem payload_snd (d : Fin 3) : (sched (F := F) m).payload (sndCell c j) 0 d = sndPay m c j := by fin_cases j <;> rfl
theorem payload_rcv (d : Fin 3) : (sched (F := F) m).payload (rcvCell c j) 0 d = rcvPay m c j := by fin_cases j <;> rfl

theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_univ_eq_bigSepL [0, 1, 2] (by decide) (by decide)]; rfl
theorem rest_snd : bigSep ((sched (F := F) m).duties (sndCell c j) 0 \ ∅) (fun d => (sched (F := F) m).payload (sndCell c j) 0 d) = sndPay m c j := by
  rw [Finset.sdiff_empty, duties_snd, bigSep_singleton, payload_snd]
theorem rest_rcv : bigSep ((sched (F := F) m).duties (rcvCell c j) 0 \ ∅) (fun d => (sched (F := F) m).payload (rcvCell c j) 0 d) = rcvPay m c j := by
  rw [Finset.sdiff_empty, duties_rcv, bigSep_singleton, payload_rcv]

end Sched

/-! ## What each device owes at launch, and the order of waits -/

/-- The credit of device `c`'s transfer to the device `j + 1` places after, -/
def owesRcv (c : Dev nD) (j : Fin 3) : CellTallies nD τ sig Unit := tallyAt (rcvCell (fwd j c) (opp j)) () N
/-- and the unit of its signal to that device. -/
def owesBar (c : Dev nD) (j : Fin 3) : CellTallies nD τ sig Unit := tallyAt (barCell (fwd j c)) () 1

/-- After the signals a device owes the three transfers; -/
def O₁ (c : Dev nD) : CellTallies nD τ sig Unit := owesRcv c 2 + owesRcv c 1 + owesRcv c 0
/-- at launch the three signals too. -/
def O₀ (c : Dev nD) : CellTallies nD τ sig Unit := O₁ c + owesBar c 2 + owesBar c 1 + owesBar c 0

def L (g : GSem nD τ sig) : Finset Unit := if g.1.2 = .tc then {()} else ∅
/-- Barrier cells come at 1, cells of arriving transfers at 2, all others at 0. -/
def lv (g : GSem nD τ sig) (_ : Unit) : ℕ := match g.2 with
  | .reg _ => 1
  | .dma q => if 8 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (k : Fin 3) : lv (rcvCell c k) () = 2 := if_pos (Nat.le_add_right 8 k.val)

theorem owesRcv_pos {c : Dev nD} {j : Fin 3} {g : GSem nD τ sig} {u : Unit} (h : 0 < owesRcv c j g u) : g = rcvCell (fwd j c) (opp j) := by
  unfold owesRcv at h
  rw [tallyAt_apply] at h
  by_contra hn
  rw [if_neg fun h' => hn h'.1] at h
  exact Nat.lt_irrefl 0 h
theorem owesBar_pos {c : Dev nD} {j : Fin 3} {g : GSem nD τ sig} {u : Unit} (h : 0 < owesBar c j g u) : g = barCell (fwd j c) := by
  unfold owesBar at h
  rw [tallyAt_apply] at h
  by_contra hn
  rw [if_neg fun h' => hn h'.1] at h
  exact Nat.lt_irrefl 0 h

theorem add_pos_cases {O O' : CellTallies nD τ sig Unit} {g : GSem nD τ sig} {u : Unit} (h : 0 < (O + O') g u) : 0 < O g u ∨ 0 < O' g u := by
  rw [Pi.add_apply, Finsupp.add_apply] at h; omega

/-- After its signals a device owes only cells of arriving transfers; -/
theorem O₁_pos {c : Dev nD} {g : GSem nD τ sig} {u : Unit} (h : 0 < O₁ c g u) : ∃ c' k, g = rcvCell c' k := by
  rcases add_pos_cases h with h | h
  · rcases add_pos_cases h with h | h <;> exact ⟨_, _, owesRcv_pos h⟩
  · exact ⟨_, _, owesRcv_pos h⟩
/-- before them barrier cells too. -/
theorem O₀_pos {c : Dev nD} {g : GSem nD τ sig} {u : Unit} (h : 0 < O₀ c g u) : (∃ c' k, g = rcvCell c' k) ∨ ∃ c', g = barCell c' := by
  rcases add_pos_cases h with h | h
  · rcases add_pos_cases h with h | h
    · rcases add_pos_cases h with h | h
      · exact .inl (O₁_pos h)
      · exact .inr ⟨_, owesBar_pos h⟩
    · exact .inr ⟨_, owesBar_pos h⟩
  · exact .inr ⟨_, owesBar_pos h⟩

omit [FloatOps F] [Named F] in
/-- A device may wait on a cell of its own if everything it owes lies higher. -/
theorem mayWait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] [Named F] in
theorem mayWait_stage (c : Dev nD) (q : DmaSem sig) (hq : q.val < 8) (O : CellTallies nD τ sig Unit) (hO : O = O₀ c ∨ O = O₁ c ∨ O = 0) :
    (levAts L lv : sProp 𝕄) ⊢ MayWait (c : Thread nD τ) (.dma q) () O := by
  have h0 : lv ((c : Thread nD τ), .dma q) () = 0 := if_neg (by omega)
  refine mayWait_of c _ O fun g u hg => ?_
  rw [h0]
  rcases hO with rfl | rfl | rfl
  · rcases O₀_pos hg with ⟨c', k, rfl⟩ | ⟨c', rfl⟩
    · exact ⟨rfl, by rw [lv_rcv]; decide⟩
    · exact ⟨rfl, Nat.one_pos⟩
  · obtain ⟨c', k, rfl⟩ := O₁_pos hg
    exact ⟨rfl, by rw [lv_rcv]; decide⟩
  · exact absurd hg (Nat.lt_irrefl 0)

omit [FloatOps F] [Named F] in
/-- At its barrier a device owes only transfers. -/
theorem mayWait_bar (c : Dev nD) : (levAts L lv : sProp 𝕄) ⊢ MayWait (c : Thread nD τ) (.reg barS) () (O₁ c) := by
  refine mayWait_of c _ _ fun g u hg => ?_
  obtain ⟨c', k, rfl⟩ := O₁_pos hg
  exact ⟨rfl, by rw [lv_rcv]; exact Nat.lt_succ_self 1⟩

end Cert.KernelIdealProof

end
-- ==== Proof.IdealSteps.lean ====
/-
One rule per kind of operation of the kernel, stated on the resources of the exchange: loading and storing a slot of
the scratch buffer, loading the rows of a point, sending slot 0, and waiting for a transfer sent or received.
-/
module

public import proofs.«01_k».proof.Proof.IdealProtocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- Running `p` on device `c` to the outcome `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD) {α : Type}

/-! ## Slots -/

omit [FloatOps F] [Named F] in
theorem scr_on (k : Fin 4) : scrM.view.setOn (slotR k).set ⊆ (slotR k).set := by
  show Finset.map (Function.Embedding.refl _) _ ⊆ _
  rw [Finset.map_refl]

/-- Loading a slot gives what it contains. -/
theorem wp_load_slot {Q : α → sProp 𝕄} (k : Fin 4) (q : PosShare TreeShare) (w : Vec F S1x1x768 .f32) {off : Fin 3 → ℕ} (hoff : off = ![k.val, 0, 0])
    {inb : ∀ a, off a + S1x1x768.size a ≤ S4x1x768.size a}
    {hl : scrM.view.LoadsAt (Rect.unit (s := S4x1x768) off S1x1x768.size inb).toLoadRect}
    {K : Vec F S1x1x768 .f32 → Prog (TpuEff nD τ sig (Elt F) Λ₀ .tc) α} :
    slotIs c k q w
      ⊢ iprop((slotIs c k q w -∗ runs c (K w) Q)
          -∗ runs c (.op (.load scrM (Rect.unit (s := S4x1x768) off S1x1x768.size inb).toLoadRect hl) K) Q) := by
  subst hoff
  have h := wp_load (defs := defs₀ (F := F)) 𝒱₀ (c : Thread nD τ) none (Γ := .empty) Set.univ (m := scrM) (r := (slotR k).toLoadRect) (hl := hl) (k := K) (Q := Q)
    (S := (slotR k).set) (q := q) (f := fill w) (scr_on k)
  rw [load_fill] at h
  exact h

/-- Loading a slot of unknown contents gives something. -/
theorem wp_load_any {Q : α → sProp 𝕄} (k : Fin 4) {off : Fin 3 → ℕ} (hoff : off = ![k.val, 0, 0])
    {inb : ∀ a, off a + S1x1x768.size a ≤ S4x1x768.size a}
    {hl : scrM.view.LoadsAt (Rect.unit (s := S4x1x768) off S1x1x768.size inb).toLoadRect}
    {K : Vec F S1x1x768 .f32 → Prog (TpuEff nD τ sig (Elt F) Λ₀ .tc) α} :
    slotAny c k
      ⊢ iprop((∀ v, slotAny c k -∗ runs c (K v) Q)
          -∗ runs c (.op (.load scrM (Rect.unit (s := S4x1x768) off S1x1x768.size inb).toLoadRect hl) K) Q) := by
  subst hoff
  unfold slotAny
  iintro ⟨%f, H⟩ Hk
  iapply (wp_load (defs := defs₀ (F := F)) 𝒱₀ (c : Thread nD τ) none (Γ := .empty) Set.univ (m := scrM) (r := (slotR k).toLoadRect) (hl := hl) (k := K) (Q := Q)
    (S := (slotR k).set) (f := f) (scr_on k)) $$ H
  iintro H
  iapply Hk
  iexists f; iexact H

/-- Storing `w` in a slot. -/
theorem wp_store_slot {Q : α → sProp 𝕄} (k : Fin 4) (w : Vec F S1x1x768 .f32) {off : Fin 3 → ℕ} (hoff : off = ![k.val, 0, 0])
    {inb : ∀ a, off a + S1x1x768.size a ≤ S4x1x768.size a}
    {hx : (scrM.access (Rect.unit (s := S4x1x768) off S1x1x768.size inb)).Stores Finset.univ}
    {hm : (Finset.univ : Finset (Rect.unit (s := S4x1x768) off S1x1x768.size inb).shape.Idx) = Finset.univ
      ∨ ∀ a, (Rect.unit (s := S4x1x768) off S1x1x768.size inb).stride a = 1}
    {K : PUnit → Prog (TpuEff nD τ sig (Elt F) Λ₀ .tc) α} :
    slotAny c k
      ⊢ iprop((slotIs c k fullShare w -∗ runs c (K ⟨⟩) Q)
          -∗ runs c (.op (.store scrM (Rect.unit (s := S4x1x768) off S1x1x768.size inb) w Finset.univ hx hm) K) Q) := by
  subst hoff
  unfold slotAny
  iintro ⟨%f, H⟩ Hk
  iapply (wp_store (defs := defs₀ (F := F)) 𝒱₀ (c : Thread nD τ) none (Γ := .empty) Set.univ (m := scrM) (r := slotR k) (Mk := Finset.univ) (w := w) (hx := hx) (hm := hm)
    (k := K) (Q := Q) (S := (slotR k).set) (f := f) (by rw [View.setOn_univ, View.set_slice_whole])) $$ H
  iintro H
  iapply Hk
  unfold slotIs
  iapply (Entails.of_eq (pointsTo_congr (ℓ := (c : Thread nD τ).loc cc0_scratch0) (store_fill k f w)))
  iexact H

/-! ## The staged rows and the staged result -/

omit [FloatOps F] [Named F] in
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem zeros2 : (![0, 0] : Fin 2 → Nat) = fun _ => 0 := funext fun a => by fin_cases a <;> rfl

theorem read_rows0 (f : (cc0_stg0_0 : Ref sig .tc).ty.Contents (Elt F)) :
    (Memref.whole cc0_stg0_0).view.readAt (Elt F) (Rect.unit (s := S384x768) ![0, 0] S384x768.size inb_S384x768_S384x768_0_0).toLoadRect f = f :=
  Memref.readAt_unit_zero (Elt F) cc0_stg0_0 zeros2 _ f
theorem read_rows1 (f : (cc0_stg0_1 : Ref sig .tc).ty.Contents (Elt F)) :
    (Memref.whole cc0_stg0_1).view.readAt (Elt F) (Rect.unit (s := S384x768) ![0, 0] S384x768.size inb_S384x768_S384x768_0_0).toLoadRect f = f :=
  Memref.readAt_unit_zero (Elt F) cc0_stg0_1 zeros2 _ f
theorem read_out (f : (cc0_stg1_0 : Ref sig .tc).ty.Contents (Elt F)) :
    (Memref.whole cc0_stg1_0).view.readAt (Elt F) (Rect.unit (s := S1x768) ![0, 0] S1x768.size inb_S1x768_S1x768_0_0).toLoadRect f = f :=
  Memref.readAt_unit_zero (Elt F) cc0_stg1_0 zeros2 _ f
theorem write_out (f w : (cc0_stg1_0 : Ref sig .tc).ty.Contents (Elt F)) :
    ((Memref.whole cc0_stg1_0).access (Rect.unit (s := S1x768) ![0, 0] S1x768.size inb_S1x768_S1x768_0_0) : View sig .tc _ _ _).write (Elt F) f w Finset.univ = w :=
  Memref.write_access_unit_zero_univ (Elt F) cc0_stg1_0 zeros2 _ f w

/-- Loading the staged rows, whichever of the two buffers they are staged in. -/
theorem wp_load_rows {Q : α → sProp 𝕄} (s : Fin 2) (X : Vec F S384x768 .f32)
    {hl : (stage0_0 s).view.LoadsAt (Rect.unit (s := S384x768) ![0, 0] S384x768.size inb_S384x768_S384x768_0_0).toLoadRect}
    {K : Vec F S384x768 .f32 → Prog (TpuEff nD τ sig (Elt F) Λ₀ .tc) α} :
    owns (Ix := Unit) (Name := ℕ) (U := UU) (Lvl := ℕ) (c : Thread nD τ) (stage0_0 s) fullShare X
      ⊢ iprop((owns (Ix := Unit) (Name := ℕ) (U := UU) (Lvl := ℕ) (c : Thread nD τ) (stage0_0 s) fullShare X -∗ runs c (K X) Q)
          -∗ runs c (.op (.load (stage0_0 s) (Rect.unit (s := S384x768) ![0, 0] S384x768.size inb_S384x768_S384x768_0_0).toLoadRect hl) K) Q) := by
  match s with
  | 0 =>
    have h := wp_load (defs := defs₀ (F := F)) 𝒱₀ (c : Thread nD τ) none (Γ := .empty) Set.univ (m := Memref.whole cc0_stg0_0)
      (r := (Rect.unit (s := S384x768) ![0, 0] S384x768.size inb_S384x768_S384x768_0_0).toLoadRect) (hl := hl) (k := K) (Q := Q)
      (S := Finset.univ) (q := fullShare) (f := X) (Finset.subset_univ _)
    rw [read_rows0 X] at h
    rw [show stage0_0 0 = Memref.whole cc0_stg0_0 from rfl, owns_whole]
    iintro ⟨%f, %hf, H⟩ Hk
    subst hf
    iapply h $$ H
    iintro H
    iapply Hk
    iexists _; isplitr; · (ipureintro; rfl)
    iexact H
  | 1 =>
    have h := wp_load (defs := defs₀ (F := F)) 𝒱₀ (c : Thread nD τ) none (Γ := .empty) Set.univ (m := Memref.whole cc0_stg0_1)
      (r := (Rect.unit (s := S384x768) ![0, 0] S384x768.size inb_S384x768_S384x768_0_0).toLoadRect) (hl := hl) (k := K) (Q := Q)
      (S := Finset.univ) (q := fullShare) (f := X) (Finset.subset_univ _)
    rw [read_rows1 X] at h
    rw [show stage0_0 1 = Memref.whole cc0_stg0_1 from rfl, owns_whole]
    iintro ⟨%f, %hf, H⟩ Hk
    subst hf
    iapply h $$ H
    iintro H
    iapply Hk
    iexists _; isplitr; · (ipureintro; rfl)
    iexact H

/-- Loading the staged result, of unknown contents. -/
theorem wp_load_out {Q : α → sProp 𝕄} (f : (cc0_stg1_0 : Ref sig .tc).ty.Contents (Elt F))
    {hl : (Memref.whole cc0_stg1_0).view.LoadsAt (Rect.unit (s := S1x768) ![0, 0] S1x768.size inb_S1x768_S1x768_0_0).toLoadRect}
    {K : Vec F S1x768 .f32 → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f : sProp 𝕄) -∗ runs c (K f) Q)
          -∗ runs c (.op (.load (Memref.whole cc0_stg1_0) (Rect.unit (s := S1x768) ![0, 0] S1x768.size inb_S1x768_S1x768_0_0).toLoadRect hl) K) Q) := by
  have h := wp_load (defs := defs₀ (F := F)) 𝒱₀ (c : Thread nD τ) none (Γ := .empty) Set.univ (m := Memref.whole cc0_stg1_0)
    (r := (Rect.unit (s := S1x768) ![0, 0] S1x768.size inb_S1x768_S1x768_0_0).toLoadRect) (hl := hl) (k := K) (Q := Q)
    (S := Finset.univ) (q := fullShare) (f := f) (Finset.subset_univ _)
  rw [read_out f] at h
  exact h

/-- Storing the staged result. -/
theorem wp_store_out {Q : α → sProp 𝕄} (f w : (cc0_stg1_0 : Ref sig .tc).ty.Contents (Elt F))
    {hx : ((Memref.whole cc0_stg1_0).access (Rect.unit (s := S1x768) ![0, 0] S1x768.size inb_S1x768_S1x768_0_0)).Stores Finset.univ}
    {hm : (Finset.univ : Finset (Rect.unit (s := S1x768) ![0, 0] S1x768.size inb_S1x768_S1x768_0_0).shape.Idx) = Finset.univ
      ∨ ∀ a, (Rect.unit (s := S1x768) ![0, 0] S1x768.size inb_S1x768_S1x768_0_0).stride a = 1}
    {K : PUnit → Prog (TpuEff nD τ sig (Elt F) Λ₀ .tc) α} :
    (((c : Thread nD τ).loc cc0_stg1_0) ↦{fullShare} f : sProp 𝕄)
      ⊢ iprop((owns (Ix := Unit) (Name := ℕ) (U := UU) (Lvl := ℕ) (c : Thread nD τ) (Memref.whole cc0_stg1_0) fullShare w -∗ runs c (K ⟨⟩) Q)
          -∗ runs c (.op (.store (Memref.whole cc0_stg1_0) (Rect.unit (s := S1x768) ![0, 0] S1x768.size inb_S1x768_S1x768_0_0) w Finset.univ hx hm) K) Q) := by
  have h := wp_store (defs := defs₀ (F := F)) 𝒱₀ (c : Thread nD τ) none (Γ := .empty) Set.univ (m := Memref.whole cc0_stg1_0)
    (r := Rect.unit (s := S1x768) ![0, 0] S1x768.size inb_S1x768_S1x768_0_0) (Mk := Finset.univ) (w := w) (hx := hx) (hm := hm) (k := K) (Q := Q)
    (S := Finset.univ) (f := f) (Finset.subset_univ _)
  rw [write_out f w] at h
  iintro H Hk
  iapply h $$ H
  iintro H
  iapply Hk
  rw [owns_whole]
  iexists _; isplitr; · (ipureintro; rfl)
  iexact H

/-! ## What is known of every semaphore of the exchange -/

/-- The semaphores of the exchange: per device the barrier semaphore (`none`), three of transfers sent (`false`), three
    of transfers received (`true`). -/
abbrev CellIx := Dev nD × Option (Bool × Fin 3)

def cellAt : CellIx → GSem nD τ sig
  | (c, none) => barCell c
  | (c, some (false, j)) => sndCell c j
  | (c, some (true, k)) => rcvCell c k

/-- Every semaphore follows the schedule, and its only round is open. -/
def records (K : CellIx → ℕ) : sProp 𝕄 :=
  iprop((bigSep Finset.univ fun x : CellIx => cellInv EX (sched m) (K x) (cellAt x))
    ∗ bigSep Finset.univ fun x : CellIx => reached EX (cellAt x) 0)

instance records_persistent (K : CellIx → ℕ) : BI.Persistent (records m K) := by unfold records; infer_instance

theorem inv_at (K : CellIx → ℕ) (x : CellIx) : records m K ⊢ cellInv EX (sched m) (K x) (cellAt x) := by
  unfold records
  iintro ⟨H, -⟩
  iapply (show (bigSep Finset.univ fun x : CellIx => (cellInv EX (sched m) (K x) (cellAt x) : sProp 𝕄)) ⊢ cellInv EX (sched m) (K x) (cellAt x) from
    bigSep_elim (Finset.mem_univ x))
  iexact H

theorem reached_at (K : CellIx → ℕ) (x : CellIx) : records m K ⊢ reached EX (cellAt x) 0 := by
  unfold records
  iintro ⟨-, H⟩
  iapply (show (bigSep Finset.univ fun x : CellIx => (reached EX (cellAt x) 0 : sProp 𝕄)) ⊢ reached EX (cellAt x) 0 from
    bigSep_elim (Finset.mem_univ x))
  iexact H

/-- Device `c` owes `O`, whatever it has waited for. -/
def owing (c : Dev nD) (O : CellTallies nD τ sig Unit) : sProp 𝕄 := iprop(∃ W, owes (c : Thread nD τ) O W)

variable (K : CellIx → ℕ)

/-! ## Signals, transfers and waits -/

/-- The `j`-th signal gives the slot that device's transfer lands in. -/
theorem wp_signal_peer {Q : α → sProp 𝕄} (j : Fin 3) (O : CellTallies nD τ sig Unit) {n : Dev nD} (hn : n = fwd j c) {q : Sem sig} (hq : q = barS)
    {k' : ℕ} (hk' : k' = 1) {k : PUnit → Prog (TpuEff nD τ sig (Elt F) Λ₀ .tc) α} :
    iprop(records m K ∗ owing c (O + owesBar c j) ∗ dutyTok EX (barCell (fwd j c)) 0 j ∗ slotAny (F := F) c j.succ)
      ⊢ iprop((owing c O -∗ runs c (k ⟨⟩) Q) -∗ runs c (.op (.semSignal (Dev.tc n : Thread nD τ) q k') k) Q) := by
  subst hn hq hk'
  unfold owing
  iintro ⟨#HR, ⟨%W, Ho⟩, Ht, Hs⟩ Hk
  iapply (Rounds.wp_signal 𝒱₀ EX (sched m) (c : Thread nD τ) none (dst := (Dev.tc (fwd j c) : Thread nD τ)) (sem := barS) (r := 0) (d := j)
    (κ := K (fwd j c, none)) (by rw [duties_bar]; exact Finset.mem_univ j) (amount_bar m (fwd j c) j) () O rfl (W := W)) $$ [Ho Ht Hs]
  · isplitr; · iapply (inv_at m K (fwd j c, none)); iexact HR
    isplitl [Ho]; · iexact Ho
    isplitl [Ht]; · iexact Ht
    isplitl [Hs]
    · rw [payload_bar]; unfold barPay; rw [fwd_opp_fwd]; iexact Hs
    · iapply (reached_at m K (fwd j c, none)); iexact HR
  iintro Ho
  iapply Hk
  iexists W; iexact Ho

theorem amount_slot (k : Fin 4) (q : DmaSem sig) : (slotM k).view.amount (.dma q) = N := rfl

/-- A transfer sent hands in its part of slot 0, -/
theorem snd_pay (j : Fin 3) : ((slotM 0).view.loc (c : Thread nD τ) ↦[(slotM 0).view.set]{share j} fill (total m c) : sProp 𝕄)
    ⊢ (sched m).payload (sndCell c j) 0 0 := by
  rw [payload_snd, slotM_set]; exact BI.Entails.refl _

/-- and on landing it leaves the receiver's slot holding the sender's total. -/
theorem rcv_pay (j : Fin 3) (f : S4x1x768.Idx → Elt F .f32) :
    ((slotM (opp j).succ).view.loc ((fwd j c : Dev nD) : Thread nD τ) ↦[(slotM (opp j).succ).view.set]{fullShare}
        ((slotM (opp j).succ).view.write (Elt F) f ((slotM 0).view.read (Elt F) (fill (total m c))) Finset.univ) : sProp 𝕄)
      ⊢ (sched m).payload (rcvCell (fwd j c) (opp j)) 0 0 := by
  rw [payload_rcv, slotM_set]
  unfold rcvPay slotIs
  rw [fwd_opp_fwd]
  exact Entails.of_eq (pointsTo_congr (ℓ := ((fwd j c : Dev nD) : Thread nD τ).loc cc0_scratch0) (copy_fill 0 (opp j).succ f (total m c)))

/-- The `j`-th transfer copies slot 0 of `c` to its slot on the device it goes to. -/
theorem wp_send_peer {Q : α → sProp 𝕄} (j : Fin 3) (O O' : CellTallies nD τ sig Unit) (hO : O' = O + owesRcv c j) {n : Dev nD} (hn : n = fwd j c)
    {src : Memref sig .tc .vmem S1x768 .f32} (hs : src = slotM 0)
    {dst : Memref sig (Dev.tc n : Thread nD τ).2.kind .vmem S1x768 .f32} (hd : dst = slotM (opp j).succ)
    {qs qr : DmaSem sig} (hqs : qs = sndS j) (hqr : qr = rcvS (opp j))
    {hsc : dst.view.ref.isScScratch = false} {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α} :
    iprop(records m K ∗ slotIs c 0 (share j) (total m c) ∗ slotAny (F := F) (fwd j c) (opp j).succ ∗ owing c O'
        ∗ dutyTok EX (sndCell c j) 0 0 ∗ dutyTok EX (rcvCell (fwd j c) (opp j)) 0 0)
      ⊢ iprop(((cred (tallyAt (sndCell c j) () N) ∗ owing c O) -∗ runs c (k ⟨⟩) Q)
          -∗ runs c (.op (.enqueueDma src (.remote (Dev.tc n : Thread nD τ) dst (.dma qs) hsc) (.dma qr) hsrc hdst hsem) k) Q) := by
  subst hn hs hd hqs hqr hO
  unfold owing slotAny
  have h := fun (f : Buf (Elt F) ((slotM (opp j).succ).view.loc ((fwd j c : Dev nD) : Thread nD τ))) (W : Waits sig Unit) =>
    Rounds.wp_send_pointsTo (defs := defs₀ (F := F)) 𝒱₀ EX (sched m) (c : Thread nD τ) none (Γ := .empty) (κ₁ := K (c, some (false, j)))
      (κ₂ := K (fwd j c, some (true, opp j))) (c' := ((fwd j c : Dev nD) : Thread nD τ)) (src := slotM 0) (dst := slotM (opp j).succ)
      (sS := .dma (sndS j)) (sem := .dma (rcvS (opp j))) (hsc := hsc) (hsrc := hsrc) (hdst := hdst) (hsem := hsem) (k := k) (Q := Q)
      (Es := Set.univ) (r₁ := 0) (r₂ := 0) (d₁ := (0 : Fin 3)) (d₂ := (0 : Fin 3)) (fs := fill (total m c)) (q := share j) (fd := f)
      (by rw [duties_snd]; exact Finset.mem_singleton_self _) (by rw [duties_rcv]; exact Finset.mem_singleton_self _)
      () () N (amount_slot _ _) (amount_snd m c j 0) (amount_rcv m (fwd j c) (opp j) 0) O rfl (W := W) (snd_pay m c j) (rcv_pay m c j f)
  iintro ⟨#HR, Hsrc, ⟨%f, Hdst⟩, ⟨%W, Ho⟩, Hts, Htr⟩ Hk
  iapply (h f W) $$ [Hsrc Hdst Ho Hts Htr]
  · isplitr; · iapply (inv_at m K (c, some (false, j))); iexact HR
    isplitr; · iapply (inv_at m K (fwd j c, some (true, opp j))); iexact HR
    isplitl [Hsrc]; · rw [slotM_set]; unfold slotIs; iexact Hsrc
    isplitl [Hdst]; · rw [slotM_set]; iexact Hdst
    isplitl [Ho]; · iexact Ho
    isplitl [Hts]; · iexact Hts
    isplitr; · iapply (reached_at m K (c, some (false, j))); iexact HR
    isplitl [Htr]; · iexact Htr
    iapply (reached_at m K (fwd j c, some (true, opp j))); iexact HR
  iintro ⟨Hc, Ho⟩
  iapply Hk
  isplitl [Hc]; · iexact Hc
  iexists W; iexact Ho

/-- The wait for the three signals gives the three slots this device's transfers land in. -/
theorem wp_wait_bar {Q : α → sProp 𝕄} {q : Sem sig} (hq : q = barS) {k' : ℕ} (hk' : k' = 3) {k : PUnit → Prog (TpuEff nD τ sig (Elt F) Λ₀ .tc) α} :
    iprop(records m K ∗ levAts L lv ∗ cred (tallyAt (barCell c) () 3) ∗ owing c (O₁ c) ∗ atPos EX (barCell c) 0 ∅ 0)
      ⊢ iprop(((owing c (O₁ c) ∗ semVal (barCell c) 0 ∗ barPay (F := F) c 0 ∗ barPay (F := F) c 1 ∗ barPay (F := F) c 2) -∗ runs c (k ⟨⟩) Q)
          -∗ runs c (.op (.semWait q k') k) Q) := by
  subst hq hk'
  unfold owing
  iintro ⟨#HR, #Hlev, Hc, ⟨%W, Ho⟩, Hat⟩ Hk
  iapply (Rounds.wp_wait_rest_token 𝒱₀ EX (sched m) (c : Thread nD τ) none (κ := K (c, none))
      (wpE_semWait_eq 𝒱₀ (c : Thread nD τ) none Set.univ) (Set.mem_univ _) () (O := O₁ c) (W := W) (R := 0) (m := 0) (T := ∅)
      (by rw [Nat.zero_add, expect_bar])) $$ [Hc Ho Hat]
  · isplitr; · iapply (inv_at m K (c, none)); iexact HR
    isplitl [Hc]; · iexact Hc
    isplitl [Ho]; · iexact Ho
    isplitr; · iapply (mayWait_bar (F := F) c); iexact Hlev
    iexact Hat
  iintro ⟨Ho, Hat, -, Hpay⟩
  ihave Hp := (Entails.of_eq (rest_bar m c)) $$ Hpay
  imod (Rounds.cell_close EX (sched m) (Set.mem_univ (K (c, none))) (fun h => h) (R := 0 + 1) (duties_later m (barCell c))) $$ [Hat] with Hz
  · isplitr; · iapply (inv_at m K (c, none)); iexact HR
    iexact Hat
  iapply Hk
  isplitl [Ho]; · iexists _; iexact Ho
  isplitl [Hz]; · iexact Hz
  iexact Hp

/-- The wait for the `j`-th transfer sent gives its part of slot 0 back. -/
theorem wp_wait_snd {Q : α → sProp 𝕄} (j : Fin 3) {q : DmaSem sig} (hq : q = sndS j) {src dst : Memref sig .tc .vmem S1x768 .f32}
    {hsrc : src.view.WordExact} {hdst : dst.view.WordExact} {k : PUnit → Prog (TpuEff nD τ sig (Elt F) Λ₀ .tc) α} :
    iprop(records m K ∗ cred (tallyAt (sndCell c j) () N) ∗ owing c 0 ∗ atPos EX (sndCell c j) 0 ∅ 0)
      ⊢ iprop(((owing c 0 ∗ semVal (sndCell c j) 0 ∗ slotIs c 0 (share j) (total m c)) -∗ runs c (k ⟨⟩) Q)
          -∗ runs c (.op (.waitDma2 q src dst hsrc hdst) k) Q) := by
  subst hq
  unfold owing
  iintro ⟨#HR, Hc, ⟨%W, Ho⟩, Hat⟩ Hk
  iapply (Rounds.wp_wait_rest_token 𝒱₀ EX (sched m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_snd])) $$ [Hc Ho Hat]
  · isplitr; · iapply (inv_at m K (c, some (false, j))); iexact HR
    isplitl [Hc]; · iexact Hc
    isplitl [Ho]; · iexact Ho
    isplitr; · rw [MayWait_zero]; iempintro
    iexact Hat
  iintro ⟨Ho, Hat, -, Hpay⟩
  ihave Hp := (Entails.of_eq (rest_snd m c j)) $$ Hpay
  imod (Rounds.cell_close EX (sched m) (Set.mem_univ (K (c, some (false, j)))) (fun h => h) (R := 0 + 1) (duties_later m (sndCell c j))) $$ [Hat] with Hz
  · isplitr; · iapply (inv_at m K (c, some (false, j))); iexact HR
    iexact Hat
  iapply Hk
  isplitl [Ho]; · iexists _; iexact Ho
  isplitl [Hz]; · iexact Hz
  unfold sndPay; iexact Hp

/-- The wait for the transfer into slot `i + 1` gives the slot, holding the sender's total. -/
theorem wp_wait_rcv {Q : α → sProp 𝕄} (i : Fin 3) {q : DmaSem sig} (hq : q = rcvS i) {src dst : Memref sig .tc .vmem S1x768 .f32}
    {hsrc : src.view.WordExact} {hdst : dst.view.WordExact} {k : PUnit → Prog (TpuEff nD τ sig (Elt F) Λ₀ .tc) α} :
    iprop(records m K ∗ cred (tallyAt (rcvCell c i) () N) ∗ owing c 0 ∗ atPos EX (rcvCell c i) 0 ∅ 0)
      ⊢ iprop(((owing c 0 ∗ semVal (rcvCell c i) 0 ∗ slotIs c i.succ fullShare (total m (fwd i c))) -∗ runs c (k ⟨⟩) Q)
          -∗ runs c (.op (.waitDma2 q src dst hsrc hdst) k) Q) := by
  subst hq
  unfold owing
  iintro ⟨#HR, Hc, ⟨%W, Ho⟩, Hat⟩ Hk
  iapply (Rounds.wp_wait_rest_token 𝒱₀ EX (sched m) (c : Thread nD τ) none (κ := K (c, some (true, i)))
      (wpE_waitDma2_eq 𝒱₀ (c : Thread nD τ) none Set.univ) (Set.mem_univ _) () (O := 0) (W := W) (R := 0) (m := 0) (T := ∅)
      (by rw [Nat.zero_add, expect_rcv])) $$ [Hc Ho Hat]
  · isplitr; · iapply (inv_at m K (c, some (true, i))); iexact HR
    isplitl [Hc]; · iexact Hc
    isplitl [Ho]; · iexact Ho
    isplitr; · rw [MayWait_zero]; iempintro
    iexact Hat
  iintro ⟨Ho, Hat, -, Hpay⟩
  ihave Hp := (Entails.of_eq (rest_rcv m c i)) $$ Hpay
  imod (Rounds.cell_close EX (sched m) (Set.mem_univ (K (c, some (true, i)))) (fun h => h) (R := 0 + 1) (duties_later m (rcvCell c i))) $$ [Hat] with Hz
  · isplitr; · iapply (inv_at m K (c, some (true, i))); iexact HR
    iexact Hat
  iapply Hk
  isplitl [Ho]; · iexists _; iexact Ho
  isplitl [Hz]; · iexact Hz
  unfold rcvPay; iexact Hp

end Steps

end Cert.KernelIdealProof

end
-- ==== Proof.IdealBody.lean ====
/-
The kernel body, run at each of the four grid points: at the first it signals the other devices and starts the total, at
the next two it adds to it, at the last it adds to it, exchanges it with the other devices and stores the result.
-/
module

public import proofs.«01_k».proof.Proof.IdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem three (Φ : Fin 3 → sProp 𝕄) : bigSep Finset.univ Φ = iprop(Φ 0 ∗ Φ 1 ∗ Φ 2) :=
  bigSep_univ_eq_bigSepL [0, 1, 2] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## What a device holds between the points -/

/-- The right to give the `j`-th signal, for each `j`. -/
def barToks (c : Dev nD) : sProp 𝕄 := bigSep Finset.univ fun j : Fin 3 => dutyTok EX (barCell (fwd j c)) 0 j

/-- The right to complete the `j`-th transfer at its sender and at its receiver, for each `j`. -/
def sendToks (c : Dev nD) : sProp 𝕄 :=
  iprop((bigSep Finset.univ fun j : Fin 3 => dutyTok EX (sndCell c j) 0 (0 : Fin 3))
    ∗ bigSep Finset.univ fun j : Fin 3 => dutyTok EX (rcvCell (fwd j c) (opp j)) 0 (0 : Fin 3))

/-- Where the device is on its own semaphores: it has waited for nothing yet. -/
def posns (c : Dev nD) : sProp 𝕄 :=
  iprop(atPos EX (barCell c) 0 ∅ 0 ∗ (bigSep Finset.univ fun j : Fin 3 => atPos EX (sndCell c j) 0 ∅ 0)
    ∗ bigSep Finset.univ fun k : Fin 3 => atPos EX (rcvCell c k) 0 ∅ 0)

/-- What the other devices owe this one: three signals, and a transfer into each of slots 1, 2 and 3. -/
def due (c : Dev nD) : sProp 𝕄 :=
  iprop(cred (tallyAt (barCell c) () 3) ∗ bigSep Finset.univ fun k : Fin 3 => cred (tallyAt (rcvCell c k) () N))

/-- What the exchange at the last point takes. -/
def held (K : CellIx → ℕ) (c : Dev nD) : sProp 𝕄 := iprop(records m K ∗ levAts L lv ∗ posns c ∗ sendToks c ∗ due c)

/-- The semaphores of the exchange, all back at zero. -/
def closed (c : Dev nD) : sProp 𝕄 :=
  iprop(semVal (barCell c) 0 ∗ (bigSep Finset.univ fun j : Fin 3 => semVal (sndCell c j) 0) ∗ bigSep Finset.univ fun k : Fin 3 => semVal (rcvCell c k) 0)

/-- The scratch buffer, of unknown contents. -/
def scratch (c : Dev nD) : sProp 𝕄 := iprop(∃ f : Buf (Elt F) ((c : Thread nD τ).loc cc0_scratch0), ((c : Thread nD τ).loc cc0_scratch0) ↦{fullShare} f)

abbrev rowsIn (c : Dev nD) (s : Fin 2) (X : Vec F S384x768 .f32) : sProp 𝕄 :=
  owns (Ix := Unit) (Name := ℕ) (U := UU) (Lvl := ℕ) (c : Thread nD τ) (stage0_0 s) fullShare X

section Body

variable (K : CellIx → ℕ) (c : Dev nD) (i : grid0.Coords) (s : Fin 2) (X : Vec F S384x768 .f32)
variable (ha1 : (stage0_0 s).IsWhole) (arg2 : Memref sig .tc .vmem S1x768 .f32) (ha2 : arg2.IsWhole)

/-- The word the body tests to see whether it is past the first point. -/
abbrev isLater (i : grid0.Coords) : BitVec 1 :=
  Scalar.cmpi .ne (Scalar.extui (Scalar.cmpi .sgt (BitVec.ofNat 32 (i 0).val) 0#32) : BitVec 32) 0#32
abbrev isFirst (i : grid0.Coords) : BitVec 1 :=
  Scalar.cmpi .ne (Scalar.extui (Scalar.cmpi .eq (BitVec.ofNat 32 (i 0).val) 0#32) : BitVec 32) 0#32

/-- At the first point: slots 1, 2 and 3 go to the other devices, and slot 0 starts the total. -/
theorem body_first (Kt : PUnit → sProp 𝕄) (h1 : k0_cond1 i = 1#1) (h2 : isFirst i = 1#1) (h3 : ¬isLater i = 1#1) (h4 : ¬k0_cond4 i = 1#1) :
    iprop((records m K ∗ owing c (O₀ c) ∗ barToks c ∗ scratch c ∗ rowsIn c s X)
        ∗ ((owing c (O₁ c) ∗ slotIs c 0 fullShare (k0_pay2 X) ∗ rowsIn c s X) -∗ Kt ⟨⟩))
      ⊢ runs c (cc0_body (F := F) i (stage0_0 s) ha1 arg2 ha2 (Memref.whole cc0_scratch0) (Memref.isWhole_whole _) cc0_scratch1 cc0_scratch2) Kt := by
  simp only [cc0_body_eq_skeleton]; unfold cc0_body_skel
  simp only [dif_pos h1, dif_pos h2, dif_neg h3, dif_neg h4]
  simp only [semSignalWord, semWaitWord, Prog.lift, Prog.bind_op, Prog.bind_ret, Prog.pure_eq_ret, runs, wp_deviceId]
  unfold barToks scratch O₀
  rw [three]
  iintro ⟨⟨#HR, Ho, ⟨Ht0, Ht1, Ht2⟩, Hs, Hx⟩, Hk⟩
  ihave Hs' := ((scratch_split (F := F) c).trans (Entails.of_eq (four _))) $$ Hs
  icases Hs' with ⟨Hs0, Hs1, Hs2, Hs3⟩
  -- the three signals
  iapply (wp_signal_peer m c K 0 (O₁ c + owesBar c 2 + owesBar c 1) (dev1_eq c _) rfl rfl) $$ [Ho Ht0 Hs1]
  · isplitr; · iexact HR
    isplitl [Ho]; · iexact Ho
    isplitl [Ht0]; · iexact Ht0
    iexact Hs1
  iintro Ho
  iapply (wp_signal_peer m c K 1 (O₁ c + owesBar c 2) (dev2_eq c _) rfl rfl) $$ [Ho Ht1 Hs2]
  · isplitr; · iexact HR
    isplitl [Ho]; · iexact Ho
    isplitl [Ht1]; · iexact Ht1
    iexact Hs2
  iintro Ho
  iapply (wp_signal_peer m c K 2 (O₁ c) (dev3_eq c _) rfl rfl) $$ [Ho Ht2 Hs3]
  · isplitr; · iexact HR
    isplitl [Ho]; · iexact Ho
    isplitl [Ht2]; · iexact Ht2
    iexact Hs3
  iintro Ho
  -- the total starts
  iapply (wp_load_rows c s X) $$ Hx
  iintro Hx
  iapply (wp_load_any c 0 rfl) $$ Hs0
  iintro %v Hs0
  iapply (wp_store_slot c 0 (k0_pay2 X) rfl) $$ Hs0
  iintro Hs0
  unfold runs
  rw [wp_ret]; imodintro
  iapply Hk
  isplitl [Ho]; · iexact Ho
  isplitl [Hs0]; · iexact Hs0
  iexact Hx

/-- At the points between: the total is added to. -/
theorem body_middle (Kt : PUnit → sProp 𝕄) (w : Vec F S1x1x768 .f32) (h1 : ¬k0_cond1 i = 1#1) (h2 : ¬isFirst i = 1#1) (h3 : isLater i = 1#1) (h4 : ¬k0_cond4 i = 1#1) :
    iprop((slotIs c 0 fullShare w ∗ rowsIn c s X)
        ∗ ((slotIs c 0 fullShare (k0_pay3 X w) ∗ rowsIn c s X) -∗ Kt ⟨⟩))
      ⊢ runs c (cc0_body (F := F) i (stage0_0 s) ha1 arg2 ha2 (Memref.whole cc0_scratch0) (Memref.isWhole_whole _) cc0_scratch1 cc0_scratch2) Kt := by
  simp only [cc0_body_eq_skeleton]; unfold cc0_body_skel
  simp only [dif_neg h1, dif_neg h2, dif_pos h3, dif_neg h4]
  simp only [Prog.lift, Prog.bind_op, Prog.bind_ret, Prog.pure_eq_ret, runs, wp_deviceId]
  iintro ⟨⟨Hs, Hx⟩, Hk⟩
  iapply (wp_load_rows c s X) $$ Hx
  iintro Hx
  iapply (wp_load_slot c 0 fullShare w rfl) $$ Hs
  iintro Hs
  iapply (wp_load_slot c 0 fullShare w rfl) $$ Hs
  iintro Hs
  ihave Hs := (slotIs_any c 0 w) $$ Hs
  iapply (wp_store_slot c 0 (k0_pay3 X w) rfl) $$ Hs
  iintro Hs
  unfold runs
  rw [wp_ret]; imodintro
  iapply Hk
  isplitl [Hs]; · iexact Hs
  iexact Hx

/-- At the last point: the total is finished, exchanged with the other devices, and the result stored. -/
theorem body_last (Kt : PUnit → sProp 𝕄) (w : Vec F S1x1x768 .f32) (hw : k0_pay3 X w = total m c) (f : (cc0_stg1_0 : Ref sig .tc).ty.Contents (Elt F))
    (ho : (Memref.whole cc0_stg1_0).IsWhole) (h1 : ¬k0_cond1 i = 1#1) (h2 : ¬isFirst i = 1#1) (h3 : isLater i = 1#1) (h4 : k0_cond4 i = 1#1) :
    iprop((held m K c ∗ owing c (O₁ c) ∗ slotIs c 0 fullShare w ∗ rowsIn c s X ∗ (((c : Thread nD τ).loc cc0_stg1_0) ↦{fullShare} f))
        ∗ ((owing c 0 ∗ scratch c ∗ closed c ∗ rowsIn c s X
            ∗ owns (Ix := Unit) (Name := ℕ) (U := UU) (Lvl := ℕ) (c : Thread nD τ) (Memref.whole cc0_stg1_0) fullShare (result m c)) -∗ Kt ⟨⟩))
      ⊢ runs c (cc0_body (F := F) i (stage0_0 s) ha1 (Memref.whole cc0_stg1_0) ho (Memref.whole cc0_scratch0) (Memref.isWhole_whole _) cc0_scratch1 cc0_scratch2) Kt := by
  simp only [cc0_body_eq_skeleton]; unfold cc0_body_skel
  simp only [dif_neg h1, dif_neg h2, dif_pos h3, dif_pos h4, k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, runs, wp_deviceId]
  unfold held posns sendToks due
  rw [three, three, three, three, three]
  iintro ⟨⟨⟨#HR, #Hlev, ⟨HaB, ⟨HaS0, HaS1, HaS2⟩, ⟨HaV0, HaV1, HaV2⟩⟩, ⟨⟨HtS0, HtS1, HtS2⟩, ⟨HtV0, HtV1, HtV2⟩⟩, HcB, ⟨HcV0, HcV1, HcV2⟩⟩, Ho, Hs, Hx, Hout⟩, Hk⟩
  -- the total is finished
  iapply (wp_load_rows c s X) $$ Hx
  iintro Hx
  iapply (wp_load_slot c 0 fullShare w rfl) $$ Hs
  iintro Hs
  iapply (wp_load_slot c 0 fullShare w rfl) $$ Hs
  iintro Hs
  ihave Hs := (slotIs_any c 0 w) $$ Hs
  iapply (wp_store_slot c 0 (k0_pay3 X w) rfl) $$ Hs
  iintro Hs
  rw [hw]
  -- the three signals received
  iapply (wp_wait_bar m c K rfl rfl) $$ [HcB Ho HaB]
  · isplitr; · iexact HR
    isplitr; · iexact Hlev
    isplitl [HcB]; · iexact HcB
    isplitl [Ho] <;> iassumption
  iintro ⟨Ho, HzB, Hp0, Hp1, Hp2⟩
  unfold barPay
  -- slot 0 sent to each of the other devices
  ihave Hs' := (Entails.of_eq (slotIs_shares c 0 (total m c))) $$ Hs
  icases Hs' with ⟨Hs0, Hs1, Hs2⟩
  unfold O₁
  iapply (wp_send_peer m c K 0 (owesRcv c 2 + owesRcv c 1) _ rfl (dev4_eq c _) rfl rfl rfl rfl) $$ [Hs0 Hp2 Ho HtS0 HtV0]
  · isplitr; · iexact HR
    isplitl [Hs0]; · iexact Hs0
    isplitl [Hp2]; · iexact Hp2
    isplitl [Ho]; · iexact Ho
    isplitl [HtS0] <;> iassumption
  iintro ⟨HcS0, Ho⟩
  iapply (wp_send_peer m c K 1 (owesRcv c 2) _ rfl (dev5_eq c _) rfl rfl rfl rfl) $$ [Hs1 Hp1 Ho HtS1 HtV1]
  · isplitr; · iexact HR
    isplitl [Hs1]; · iexact Hs1
    isplitl [Hp1]; · iexact Hp1
    isplitl [Ho]; · iexact Ho
    isplitl [HtS1] <;> iassumption
  iintro ⟨HcS1, Ho⟩
  iapply (wp_send_peer m c K 2 0 _ (zero_add _).symm (dev6_eq c _) rfl rfl rfl rfl) $$ [Hs2 Hp0 Ho HtS2 HtV2]
  · isplitr; · iexact HR
    isplitl [Hs2]; · iexact Hs2
    isplitl [Hp0]; · iexact Hp0
    isplitl [Ho]; · iexact Ho
    isplitl [HtS2] <;> iassumption
  iintro ⟨HcS2, Ho⟩
  -- each of them, and each of those received, waited for
  iapply (wp_wait_snd m c K 0 rfl) $$ [HcS0 Ho HaS0]
  · isplitr; · iexact HR
    isplitl [HcS0]; · iexact HcS0
    isplitl [Ho] <;> iassumption
  iintro ⟨Ho, HzS0, Hs0⟩
  iapply (wp_wait_rcv m c K 2 rfl) $$ [HcV2 Ho HaV2]
  · isplitr; · iexact HR
    isplitl [HcV2]; · iexact HcV2
    isplitl [Ho] <;> iassumption
  iintro ⟨Ho, HzV2, Hr2⟩
  iapply (wp_wait_snd m c K 1 rfl) $$ [HcS1 Ho HaS1]
  · isplitr; · iexact HR
    isplitl [HcS1]; · iexact HcS1
    isplitl [Ho] <;> iassumption
  iintro ⟨Ho, HzS1, Hs1⟩
  iapply (wp_wait_rcv m c K 1 rfl) $$ [HcV1 Ho HaV1]
  · isplitr; · iexact HR
    isplitl [HcV1]; · iexact HcV1
    isplitl [Ho] <;> iassumption
  iintro ⟨Ho, HzV1, Hr1⟩
  iapply (wp_wait_snd m c K 2 rfl) $$ [HcS2 Ho HaS2]
  · isplitr; · iexact HR
    isplitl [HcS2]; · iexact HcS2
    isplitl [Ho] <;> iassumption
  iintro ⟨Ho, HzS2, Hs2⟩
  iapply (wp_wait_rcv m c K 0 rfl) $$ [HcV0 Ho HaV0]
  · isplitr; · iexact HR
    isplitl [HcV0]; · iexact HcV0
    isplitl [Ho] <;> iassumption
  iintro ⟨Ho, HzV0, Hr0⟩
  -- slot 0 is whole again; the four slots are read and the result stored
  ihave Hs := (Entails.of_eq (slotIs_shares c 0 (total m c)).symm) $$ [Hs0 Hs1 Hs2]
  · isplitl [Hs0]; · iexact Hs0
    isplitl [Hs1] <;> iassumption
  iapply (wp_load_slot c 0 fullShare (total m c) rfl) $$ Hs
  iintro Hs
  iapply (wp_load_slot c (0 : Fin 3).succ fullShare (total m (fwd 0 c)) rfl) $$ Hr0
  iintro Hr0
  iapply (wp_load_slot c (1 : Fin 3).succ fullShare (total m (fwd 1 c)) rfl) $$ Hr1
  iintro Hr1
  iapply (wp_load_slot c (2 : Fin 3).succ fullShare (total m (fwd 2 c)) rfl) $$ Hr2
  iintro Hr2
  iapply (wp_load_out c f) $$ Hout
  iintro Hout
  iapply (wp_store_out c f (result m c)) $$ Hout
  iintro Hout
  unfold runs
  rw [wp_ret]; imodintro
  iapply Hk
  isplitl [Ho]; · iexact Ho
  isplitl [Hs Hr0 Hr1 Hr2]
  · unfold scratch
    iapply ((Entails.of_eq (four (fun k : Fin 4 => slotAny (F := F) c k)).symm).trans (scratch_join (F := F) c))
    isplitl [Hs]; · iapply (slotIs_any c 0 (total m c)); iexact Hs
    isplitl [Hr0]; · iapply (slotIs_any c (0 : Fin 3).succ (total m (fwd 0 c))); iexact Hr0
    isplitl [Hr1]; · iapply (slotIs_any c (1 : Fin 3).succ (total m (fwd 1 c))); iexact Hr1
    iapply (slotIs_any c (2 : Fin 3).succ (total m (fwd 2 c))); iexact Hr2
  isplitl [HzB HzS0 HzS1 HzS2 HzV0 HzV1 HzV2]
  · unfold closed
    rw [three, three]
    isplitl [HzB]; · iexact HzB
    isplitl [HzS0 HzS1 HzS2]
    · isplitl [HzS0]; · iexact HzS0
      isplitl [HzS1] <;> iassumption
    isplitl [HzV0]; · iexact HzV0
    isplitl [HzV1] <;> iassumption
  isplitl [Hx]; · iexact Hx
  iexact Hout

end Body

end Cert.KernelIdealProof

end
-- ==== Proof.IdealPoints.lean ====
/-
What holds between the grid points, and that the body keeps it at every point.
-/
module

public import proofs.«01_k».proof.Proof.IdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

set_option backward.proofsInPublic true in
/-- The first semaphore of each of the two arrays of four, -/
def idleS (b : Fin 2) : DmaSem sig := ⟨3 + 4 * b.val, by have := b.isLt; show 3 + 4 * b.val < 11; omega⟩
/-- which the kernel never uses. -/
def spare (c : Dev nD) : sProp 𝕄 :=
  iprop(semVal (((c : Thread nD τ), .dma (idleS 0)) : GSem nD τ sig) 0 ∗ semVal (((c : Thread nD τ), .dma (idleS 1)) : GSem nD τ sig) 0)

/-- What holds before point `n`: at the start everything is still to do; from then on slot 0 holds the column sums of
    the rows seen; after the last point the exchange is over. -/
def phase (c : Dev nD) : ℕ → sProp 𝕄
  | 0 => iprop((∃ K, held m K c) ∗ barToks c ∗ scratch c ∗ spare c)
  | 4 => iprop(closed c ∗ scratch c ∗ spare c)
  | n + 1 => iprop((∃ K, held m K c) ∗ slotIs c 0 fullShare (upTo m c n) ∗ spare c)

/-- What the device owes before point `n`. -/
def owedAt (c : Dev nD) : ℕ → CellTallies nD τ sig Unit
  | 0 => O₀ c
  | 4 => 0
  | _ + 1 => O₁ c

theorem phase_mid (c : Dev nD) (n : ℕ) (hn : n < 3) :
    phase m c (n + 1) = iprop((∃ K, held m K c) ∗ slotIs c 0 fullShare (upTo m c n) ∗ spare c) := by
  match n, hn with
  | 0, _ => rfl
  | 1, _ => rfl
  | 2, _ => rfl
theorem owed_mid (c : Dev nD) (n : ℕ) (hn : n < 3) : owedAt c (n + 1) = O₁ c := by
  match n, hn with
  | 0, _ => rfl
  | 1, _ => rfl
  | 2, _ => rfl

def dats (_ : Fin 1) (c : Dev nD) : Dat τ (Elt F) Unit ℕ UU ℕ cfg0 c where
  A w := m ((cfg0.win w).arr.view.loc (c : Thread nD τ))
  after w t := match w with
    | ⟨0, _⟩ => rows m c t
    | ⟨1, _⟩ => result m c
  Φ t := phase m c t.val
  q _ := fullShare
  owed t := owedAt c t.val

/-- Window 0 is handed to the body holding the rows of the point. -/
theorem before_rows (c : Dev nD) (t : Fin cfg0.N) (d) : (dats m 0 c).before 0 t d = rows m c t :=
  ((dats m 0 c).before_in_eq_fetched 0 rfl (fun _ => rfl) (fun _ _ _ => rfl) (fun t => by
    show rows m c t = _
    unfold Dat.blockOf rows iblk; rfl) t d).trans
    (by unfold Dat.fetched Dat.blockOf rows iblk; rfl)

/-- What the body leaves in window 1's buffer: its contents as found, but at the last point the result. -/
def outLeft (c : Dev nD) (t : Fin cfg0.N) : sProp 𝕄 :=
  match cfg0.idle 1 (cfg0.grid.coords t) with
  | true =>
    match (cfg0.win 1).flush t with
    | false => iprop(∃ d, owns (c : Thread nD τ) ((cfg0.win 1).stage (cfg0.slots t 1)) fullShare ((dats m 0 c).before 1 t d))
    | true => owns (c : Thread nD τ) ((cfg0.win 1).stage (cfg0.slots t 1)) fullShare ((dats m 0 c).after 1 t)
  | false => owns (c : Thread nD τ) ((cfg0.win 1).stage (cfg0.slots t 1)) fullShare ((dats m 0 c).after 1 t)

theorem outLeft_before (c : Dev nD) (t : Fin cfg0.N) (hi : cfg0.idle 1 (cfg0.grid.coords t) = true) (ht : ¬t.val % 4 = 3) :
    outLeft m c t = iprop(∃ d, owns (c : Thread nD τ) ((cfg0.win 1).stage (cfg0.slots t 1)) fullShare ((dats m 0 c).before 1 t d)) := by
  have hf : (cfg0.win 1).flush t = false := by
    rw [Bool.eq_false_iff]; exact fun h => ht ((flush0_1 t).mp h)
  unfold outLeft
  rw [hi, hf]

theorem outLeft_last (c : Dev nD) (t : Fin cfg0.N) (hi : cfg0.idle 1 (cfg0.grid.coords t) = false) :
    outLeft m c t = owns (c : Thread nD τ) ((cfg0.win 1).stage (cfg0.slots t 1)) fullShare (result m c) := by
  unfold outLeft
  rw [hi]; rfl

/-- What the body is run from at point `t`, and to. -/
def pre (c : Dev nD) (t : Fin cfg0.N) : sProp 𝕄 :=
  iprop(phase m c t.val ∗ owing c (owedAt c t.val) ∗ rowsIn c ((cfg0.slots t 0).cast nbuf0_0) (rows m c t)
    ∗ ∃ d, owns (c : Thread nD τ) ((cfg0.win 1).stage (cfg0.slots t 1)) fullShare ((dats m 0 c).before 1 t d))
def post (c : Dev nD) (t : Fin cfg0.N) : sProp 𝕄 :=
  iprop(phase m c (t.val + 1) ∗ owing c (owedAt c (t.val + 1)) ∗ rowsIn c ((cfg0.slots t 0).cast nbuf0_0) (rows m c t) ∗ outLeft m c t)

theorem phase_start (c : Dev nD) : phase m c 0 = iprop((∃ K, held m K c) ∗ barToks c ∗ scratch c ∗ spare c) := rfl
theorem phase_end (c : Dev nD) : phase m c 4 = iprop(closed c ∗ scratch c ∗ spare c) := rfl
theorem owed_start (c : Dev nD) : owedAt c 0 = O₀ c := rfl
theorem owed_end (c : Dev nD) : owedAt c 4 = 0 := rfl

/-- At the first point. -/
theorem point_first (c : Dev nD) (t : Fin cfg0.N) (htn : t = pt 0) : pre m c t ⊢ runs c (bodyAt0 (F := F) t) (fun _ => post m c t) := by
  have hcond : k0_cond1 (grid0.coords t) = 1#1 ∧ isFirst (grid0.coords t) = 1#1 ∧ (¬isLater (grid0.coords t) = 1#1)
      ∧ (¬k0_cond4 (grid0.coords t) = 1#1) ∧ cfg0.idle 1 (cfg0.grid.coords t) = true ∧ (¬t.val % 4 = 3) ∧ t.val = 0 := by
    subst htn; decide
  obtain ⟨h1, h2, h3, h4, hi, ht, hv⟩ := hcond
  have hu : upTo m c 0 = k0_pay2 (rows m c t) := by rw [htn]; rfl
  unfold pre post
  rw [outLeft_before m c t hi ht, hv, phase_start, owed_start, phase_mid m c 0 (by omega), owed_mid c 0 (by omega), hu]
  iintro ⟨⟨⟨%K, Hh⟩, Ht, Hs, Hsp⟩, Ho, Hx, Hout⟩
  unfold held
  icases Hh with ⟨#HR, Hh⟩
  iapply (body_first m K c (grid0.coords t) ((cfg0.slots t 0).cast nbuf0_0) (rows m c t)
    (hstage0_0 _) _ (hstage0_1 _)
    (fun _ => iprop(((∃ K, held m K c) ∗ slotIs c 0 fullShare (k0_pay2 (rows m c t)) ∗ spare c) ∗ owing c (O₁ c)
      ∗ rowsIn c ((cfg0.slots t 0).cast nbuf0_0) (rows m c t)
      ∗ ∃ d, owns (c : Thread nD τ) ((cfg0.win 1).stage (cfg0.slots t 1)) fullShare ((dats m 0 c).before 1 t d)))
    h1 h2 h3 h4)
  isplitl [Ho Ht Hs Hx]
  · isplitr; · iexact HR
    isplitl [Ho]; · iexact Ho
    isplitl [Ht]; · iexact Ht
    isplitl [Hs] <;> iassumption
  iintro ⟨Ho, Hs, Hx⟩
  isplitl [Hh Hs Hsp]
  · isplitl [Hh]
    · iexists K; unfold held; isplitr; · iexact HR
      iexact Hh
    isplitl [Hs]; · iexact Hs
    iexact Hsp
  isplitl [Ho]; · iexact Ho
  isplitl [Hx]; · iexact Hx
  iexact Hout

/-- At a point between the first and the last. -/
theorem point_middle (c : Dev nD) (t : Fin cfg0.N) (n : ℕ) (htn : t = pt (n + 1)) (hn : n < 2) :
    pre m c t ⊢ runs c (bodyAt0 (F := F) t) (fun _ => post m c t) := by
  have hcond : (¬k0_cond1 (grid0.coords t) = 1#1) ∧ (¬isFirst (grid0.coords t) = 1#1) ∧ isLater (grid0.coords t) = 1#1
      ∧ (¬k0_cond4 (grid0.coords t) = 1#1) ∧ cfg0.idle 1 (cfg0.grid.coords t) = true ∧ ¬t.val % 4 = 3 ∧ t.val = n + 1 := by
    subst htn; revert hn n; decide
  obtain ⟨h1, h2, h3, h4, hi, ht, hv⟩ := hcond
  have hu : upTo m c (n + 1) = k0_pay3 (rows m c t) (upTo m c n) := by rw [htn]; rfl
  unfold pre post
  rw [outLeft_before m c t hi ht, hv, phase_mid m c n (by omega), phase_mid m c (n + 1) (by omega), hu, owed_mid c n (by omega), owed_mid c (n + 1) (by omega)]
  iintro ⟨⟨Hh, Hs, Hsp⟩, Ho, Hx, Hout⟩
  iapply (body_middle c (grid0.coords t) ((cfg0.slots t 0).cast nbuf0_0) (rows m c t)
    (hstage0_0 _) _ (hstage0_1 _)
    (fun _ => iprop(((∃ K, held m K c) ∗ slotIs c 0 fullShare (k0_pay3 (rows m c t) (upTo m c n)) ∗ spare c) ∗ owing c (O₁ c)
      ∗ rowsIn c ((cfg0.slots t 0).cast nbuf0_0) (rows m c t)
      ∗ ∃ d, owns (c : Thread nD τ) ((cfg0.win 1).stage (cfg0.slots t 1)) fullShare ((dats m 0 c).before 1 t d)))
    (upTo m c n) h1 h2 h3 h4)
  isplitl [Hs Hx]
  · isplitl [Hs] <;> iassumption
  iintro ⟨Hs, Hx⟩
  isplitl [Hh Hs Hsp]
  · isplitl [Hh]; · iexact Hh
    isplitl [Hs] <;> iassumption
  isplitl [Ho]; · iexact Ho
  isplitl [Hx] <;> iassumption

theorem point_last (c : Dev nD) : pre m c t0_3 ⊢ runs c (bodyAt0 (F := F) t0_3) (fun _ => post m c t0_3) := by
  unfold pre post
  rw [outLeft_last m c t0_3 (by decide)]
  show iprop(((∃ K, held m K c) ∗ slotIs c 0 fullShare (upTo m c 2) ∗ spare c) ∗ owing c (O₁ c) ∗ rowsIn c _ (rows m c t0_3)
      ∗ ∃ d, owns (c : Thread nD τ) (Memref.whole cc0_stg1_0) fullShare ((dats m 0 c).before 1 t0_3 d))
    ⊢ runs c (cc0_body (F := F) (grid0.coords t0_3) (stage0_0 ((cfg0.slots t0_3 0).cast nbuf0_0)) (hstage0_0 _) (Memref.whole cc0_stg1_0) (hstage0_1 0)
        (Memref.whole cc0_scratch0) (Memref.isWhole_whole _) cc0_scratch1 cc0_scratch2)
      (fun _ => iprop((closed c ∗ scratch c ∗ spare c) ∗ owing c 0 ∗ rowsIn c ((cfg0.slots t0_3 0).cast nbuf0_0) (rows m c t0_3)
        ∗ owns (c : Thread nD τ) (Memref.whole cc0_stg1_0) fullShare (result m c)))
  iintro ⟨⟨⟨%K, Hh⟩, Hs, Hsp⟩, Ho, Hx, ⟨%d, Hout⟩⟩
  ihave Hout' := (Entails.of_eq (owns_whole c _ _)) $$ Hout
  icases Hout' with ⟨%f, -, Hout⟩
  iapply (body_last m K c (grid0.coords t0_3) ((cfg0.slots t0_3 0).cast nbuf0_0) (rows m c t0_3)
    (hstage0_0 _)
    (fun _ => iprop((closed c ∗ scratch c ∗ spare c) ∗ owing c 0 ∗ rowsIn c ((cfg0.slots t0_3 0).cast nbuf0_0) (rows m c t0_3)
        ∗ owns (c : Thread nD τ) (Memref.whole cc0_stg1_0) fullShare (result m c)))
    (upTo m c 2) rfl f (hstage0_1 0) (by decide) (by decide) (by decide) (by decide))
  isplitl [Hh Ho Hs Hx Hout]
  · isplitl [Hh]; · iexact Hh
    isplitl [Ho]; · iexact Ho
    isplitl [Hs]; · iexact Hs
    isplitl [Hx] <;> iassumption
  iintro ⟨Ho, Hscr, Hcl, Hx, Hout⟩
  isplitl [Hcl Hscr Hsp]
  · isplitl [Hcl]; · iexact Hcl
    isplitl [Hscr] <;> iassumption
  isplitl [Ho]; · iexact Ho
  isplitl [Hx] <;> iassumption

theorem point (c : Dev nD) (t : Fin cfg0.N) : pre m c t ⊢ runs c (bodyAt0 (F := F) t) (fun _ => post m c t) := by
  rcases fin_N0 t with rfl | rfl | rfl | rfl
  · exact point_first m c _ rfl
  · exact point_middle m c _ 0 rfl (by decide)
  · exact point_middle m c _ 1 rfl (by decide)
  · exact point_last m c

theorem owesAt_owing (c : Dev nD) (t : Fin (cfg0.N + 1)) : (dats m 0 c).owesAt () t ⊢ owing c (owedAt c t.val) := by
  unfold owing Dat.owesAt Pipeline.owesWithin
  iintro ⟨%W, -, H⟩
  iexists W; iexact H
theorem owing_owesAt (c : Dev nD) (t : Fin (cfg0.N + 1)) : owing c (owedAt c t.val) ⊢ (dats m 0 c).owesAt () t := by
  unfold owing Dat.owesAt Pipeline.owesWithin
  iintro ⟨%W, H⟩
  iexists W
  isplitr; · ipureintro; exact fun _ _ => Or.inl trivial
  iexact H

/-- The body keeps what holds between the points. -/
theorem body_obligation (c : Dev nD) : BodyObligation (dats (F := F) m 0 c) (defs₀ (F := F)) 𝒱₀ () Set.univ := fun t => by
  rw [bigSep_W0, bigSep_W0]
  show iprop(phase m c t.val ∗ (dats m 0 c).owesAt () t.castSucc
        ∗ (∃ d, owns (c : Thread nD τ) (stage0_0 ((cfg0.slots t 0).cast nbuf0_0)) fullShare ((dats m 0 c).before 0 t d))
        ∗ ∃ d, owns (c : Thread nD τ) ((cfg0.win 1).stage (cfg0.slots t 1)) fullShare ((dats m 0 c).before 1 t d))
      ⊢ runs c (bodyAt0 (F := F) t) (fun _ => iprop(phase m c (t.val + 1) ∗ (dats m 0 c).owesAt () t.succ
        ∗ rowsIn c ((cfg0.slots t 0).cast nbuf0_0) (rows m c t) ∗ outLeft m c t))
  refine BI.Entails.trans ?_ ((point m c t).trans (wp_mono _ _ _ fun _ => ?_))
  · show (_ : sProp 𝕄) ⊢ _
    unfold pre
    iintro ⟨Hp, Ho, ⟨%d, Hx⟩, Hout⟩
    rw [before_rows]
    isplitl [Hp]; · iexact Hp
    isplitl [Ho]; · iapply (owesAt_owing m c t.castSucc); iexact Ho
    isplitl [Hx] <;> iassumption
  · show (_ : sProp 𝕄) ⊢ _
    unfold post
    iintro ⟨Hp, Ho, Hrest⟩
    isplitl [Hp]; · iexact Hp
    isplitl [Ho]; · iapply (owing_owesAt m c t.succ); iexact Ho
    iexact Hrest

end Cert.KernelIdealProof

end
-- ==== Proof.IdealRun.lean ====
/-
The launch: what each device is given at the start, and what every run of the program ends in.
-/
module

public import proofs.«01_k».proof.Proof.IdealPoints
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores the exchange uses -/

set_option backward.proofsInPublic true in
/-- The kernel's own semaphores: two arrays of four, one after the other. -/
def osem (i : Fin 8) : SemLoc sig := .dma ⟨3 + i.val, by have := i.isLt; show 3 + i.val < 11; omega⟩

theorem ownSemFacts : Pipeline.OwnSemFacts cfg0.spec osem := by decide

theorem share_eq (c : Dev nD) (w : Fin cfg0.W) : (dats m 0 c).share w = fullShare := by unfold Dat.share; split <;> rfl

/-- The semaphore of a cell, on whichever device. -/
def semAt : Option (Bool × Fin 3) → SemLoc sig
  | none => .reg barS
  | some (false, j) => .dma (sndS j)
  | some (true, k) => .dma (rcvS k)

theorem semAt_injective : Function.Injective semAt := by decide

theorem cellAt_eq (x : CellIx) : cellAt x = ((x.1 : Thread nD τ), semAt x.2) := by
  obtain ⟨c, _ | ⟨_ | _, j⟩⟩ := x <;> rfl

theorem cellAt_injective : Function.Injective cellAt := by
  rintro ⟨c, x⟩ ⟨c', x'⟩ h
  rw [cellAt_eq, cellAt_eq] at h
  exact Prod.ext (congrArg (fun g : GSem nD τ sig => g.1.1) h) (semAt_injective (congrArg Prod.snd h))

def exCells : Finset (GSem nD τ sig) := Finset.univ.map ⟨cellAt, cellAt_injective⟩

/-- The duties of the cells of a device: a barrier's (`none`) numbered 0, 1 and 2; of each semaphore of transfers one. -/
abbrev TokIx := Dev nD × Option Bool × Fin 3

def tokAt : TokIx → GSem nD τ sig × ℕ × Fin 3
  | (c, none, j) => (barCell c, 0, j)
  | (c, some false, j) => (sndCell c j, 0, 0)
  | (c, some true, k) => (rcvCell c k, 0, 0)

theorem tokAt_injective : Function.Injective tokAt := by
  rintro ⟨c, x⟩ ⟨c', x'⟩ h
  have h1 : c = c' := by
    have := congrArg (fun y : GSem nD τ sig × ℕ × Fin 3 => y.1.1.1) h
    obtain ⟨_ | _ | _, j⟩ := x <;> obtain ⟨_ | _ | _, j'⟩ := x' <;> exact this
  subst h1
  refine Prod.ext rfl ?_
  have h2 : ((tokAt (c, x)).1.2, (tokAt (c, x)).2.2) = ((tokAt (c, x')).1.2, (tokAt (c, x')).2.2) := by rw [h]
  have key : ∀ x x' : Option Bool × Fin 3,
      (semAt (x.1.map fun b => (b, x.2)), if x.1 = none then x.2 else 0) = (semAt (x'.1.map fun b => (b, x'.2)), if x'.1 = none then x'.2 else (0 : Fin 3)) → x = x' := by
    decide
  refine key x x' ?_
  obtain ⟨_ | _ | _, j⟩ := x <;> obtain ⟨_ | _ | _, j'⟩ := x' <;> exact h2

def exToks : Finset (GSem nD τ sig × ℕ × Fin 3) := Finset.univ.map ⟨tokAt, tokAt_injective⟩

def u₀ : UU := (initOf (Pipeline.cells cfgs cellOf_inj) (Pipeline.launchToks cfgs cellOf_inj), initOf exCells exToks)

/-- Over the cells of one device: its barrier, then what it sends, then what it receives. -/
theorem bigSep_cells (Φ : Option (Bool × Fin 3) → sProp 𝕄) :
    bigSep Finset.univ Φ = iprop(Φ none ∗ (bigSep Finset.univ fun j => Φ (some (false, j))) ∗ bigSep Finset.univ fun k => Φ (some (true, k))) := by
  rw [bigSep_univ_eq_bigSepL [none, some (false, 0), some (false, 1), some (false, 2), some (true, 0), some (true, 1), some (true, 2)] (by decide) (by decide),
    three, three]
  show iprop(Φ none ∗ Φ (some (false, 0)) ∗ Φ (some (false, 1)) ∗ Φ (some (false, 2)) ∗ Φ (some (true, 0)) ∗ Φ (some (true, 1)) ∗ Φ (some (true, 2))) = _
  refine BI.equiv_iff.mp ⟨?_, ?_⟩
  · show (_ : sProp 𝕄) ⊢ _
    iintro ⟨H, H1, H2, H3, H4, H5, H6⟩
    isplitl [H]; · iexact H
    isplitl [H1 H2 H3]
    · isplitl [H1]; · iexact H1
      isplitl [H2] <;> iassumption
    · isplitl [H4]; · iexact H4
      isplitl [H5] <;> iassumption
  · show (_ : sProp 𝕄) ⊢ _
    iintro ⟨H, ⟨H1, H2, H3⟩, H4, H5, H6⟩
    isplitl [H]; · iexact H
    isplitl [H1]; · iexact H1
    isplitl [H2]; · iexact H2
    isplitl [H3]; · iexact H3
    isplitl [H4]; · iexact H4
    isplitl [H5] <;> iassumption

/-- The rights to perform the duties of device `c`'s own cells. -/
def toks (c : Dev nD) : sProp 𝕄 :=
  iprop((bigSep Finset.univ fun j : Fin 3 => dutyTok EX (barCell c) 0 j) ∗ (bigSep Finset.univ fun j : Fin 3 => dutyTok EX (sndCell c j) 0 (0 : Fin 3))
    ∗ bigSep Finset.univ fun k : Fin 3 => dutyTok EX (rcvCell c k) 0 (0 : Fin 3))

/-- What the start deals device `c`. -/
def G (c : Dev nD) : sProp 𝕄 :=
  iprop((bigSep Finset.univ fun x => roundState EX (sched m) (cellAt (c, x)) 0)
    ∗ (bigSep Finset.univ fun x => iprop(atPos EX (cellAt (c, x)) 0 ∅ 0 ∗ reached EX (cellAt (c, x)) 0)) ∗ toks c)

/-- What the devices make of it together: the records, and for each device its places, the rights to the duties it
    performs, and its two unused semaphores. -/
def G' (c : Dev nD) : sProp 𝕄 := iprop((∃ K, records m K ∗ posns c ∗ sendToks c) ∗ barToks c ∗ spare c)

theorem fund_exchange : BI.own (EX (initOf exCells exToks)) ⊢ (|==> bigSep Finset.univ (G m) : sProp 𝕄) := by
  have hX (Φ : GSem nD τ sig → sProp 𝕄) : bigSep exCells Φ = bigSep Finset.univ fun c : Dev nD => bigSep Finset.univ fun x => Φ (cellAt (c, x)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    refine bigSep_congr fun c _ => ?_
    rw [bigSep_univ_prod, bigSep_univ_eq_bigSepL [none, some false, some true] (by decide) (by decide)]
    rfl
  iintro HX
  imod (Rounds.fund EX (sched m) exCells exToks) $$ HX with ⟨Hst, Hr, Hat, Htok⟩
  imodintro
  ihave Hst' := (Entails.of_eq (hX fun g => roundState EX (sched m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's own semaphores are the two unused ones, those of what it sends, and those of what it receives; -/
theorem ownSems0_eq (c : Dev nD) : (Pipeline.ownSems0 (Ix := Unit) (Name := ℕ) (U := UU) (Lvl := ℕ) (Val := Elt F) (τ := τ) osem c : sProp 𝕄)
    = iprop(spare c ∗ (bigSep Finset.univ fun j : Fin 3 => semVal (sndCell c j) 0) ∗ bigSep Finset.univ fun k : Fin 3 => semVal (rcvCell c k) 0) := by
  rw [Pipeline.ownSems0_eq_of_list c osem [0, 1, 2, 3, 4, 5, 6, 7] (by decide) (by decide), three, three]
  unfold spare
  show iprop(semVal (((c : Thread nD τ), .dma (idleS 0)) : GSem nD τ sig) 0 ∗ semVal (sndCell c 0) 0 ∗ semVal (sndCell c 1) 0 ∗ semVal (sndCell c 2) 0
    ∗ semVal (((c : Thread nD τ), .dma (idleS 1)) : GSem nD τ sig) 0 ∗ semVal (rcvCell c 0) 0 ∗ semVal (rcvCell c 1) 0 ∗ semVal (rcvCell c 2) 0) = _
  refine BI.equiv_iff.mp ⟨?_, ?_⟩
  · show (_ : sProp 𝕄) ⊢ _
    iintro ⟨H, H1, H2, H3, H', H4, H5, H6⟩
    isplitl [H H']; · isplitl [H] <;> iassumption
    isplitl [H1 H2 H3]
    · isplitl [H1]; · iexact H1
      isplitl [H2] <;> iassumption
    · isplitl [H4]; · iexact H4
      isplitl [H5] <;> iassumption
  · show (_ : sProp 𝕄) ⊢ _
    iintro ⟨⟨H, H'⟩, ⟨H1, H2, H3⟩, H4, H5, H6⟩
    isplitl [H]; · iexact H
    isplitl [H1]; · iexact H1
    isplitl [H2]; · iexact H2
    isplitl [H3]; · iexact H3
    isplitl [H']; · iexact H'
    isplitl [H4]; · iexact H4
    isplitl [H5] <;> iassumption

/-- its barrier is the one semaphore which outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ iprop(spare c ∗ bigSep Finset.univ fun x => semVal (cellAt (c, x)) 0 : sProp 𝕄) := by
  rw [ownSems0_eq, unscopedSems0_eq, bigSep_cells]
  iintro ⟨⟨HP, HS, HV⟩, HB⟩
  isplitl [HP]; · iexact HP
  isplitl [HB]; · iexact HB
  isplitl [HS]; · iexact HS
  iexact HV

/-- Each device puts its semaphores under the schedule. -/
theorem put_under_schedule (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv EX (sched m) κ (cellAt (c, x))))
          ∗ (bigSep Finset.univ fun x => iprop(atPos EX (cellAt (c, x)) 0 ∅ 0 ∗ reached EX (cellAt (c, x)) 0)) ∗ toks c ∗ spare c) := by
  unfold G
  iintro ⟨Hos, Hus, Hst, Hat, Htok⟩
  ihave Hv := (sems0_split (F := F) c) $$ [Hos Hus]
  · isplitl [Hos] <;> iassumption
  icases Hv with ⟨Hsp, Hv⟩
  imod (show iprop((bigSep Finset.univ fun x => semVal (cellAt (c, x)) 0) ∗ bigSep Finset.univ fun x => roundState EX (sched m) (cellAt (c, x)) 0)
      ⊢ (|={Set.univ}=> bigSep Finset.univ fun x => iprop(∃ κ : ℕ, cellInv EX (sched m) κ (cellAt (c, x))) : sProp 𝕄) from by
        rw [← bigSep_sep']
        exact (bigSep_mono fun x _ => (Rounds.body_intro EX (sched m) (cellAt (c, x))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hsp

/-- One family of rights dealt around: each to the device `j + 1` places before the cell's own. -/
theorem dealt (Φ : Dev nD → Fin 3 → sProp 𝕄) :
    (bigSep Finset.univ fun c : Dev nD => bigSep Finset.univ fun j : Fin 3 => Φ c j)
      = bigSep Finset.univ fun c : Dev nD => bigSep Finset.univ fun j : Fin 3 => Φ (fwd j c) j := by
  simp only [three, bigSep_sep']
  rw [bigSep_univ_equiv (turn 0) (fun c : Dev nD => Φ c 0), bigSep_univ_equiv (turn 1) (fun c : Dev nD => Φ c 1), bigSep_univ_equiv (turn 2) (fun c : Dev nD => Φ c 2)]
  rfl

/-- Counted from the sending device instead of the receiving one. -/
theorem recounted (Φ : Fin 3 → sProp 𝕄) : bigSep Finset.univ Φ = bigSep Finset.univ fun j : Fin 3 => Φ (opp j) :=
  bigSep_univ_equiv Fin.revPerm Φ

/-- Every right goes to the device which performs the duty. -/
theorem toks_dealt : (bigSep Finset.univ fun c : Dev nD => (toks c : sProp 𝕄)) ⊢ iprop((bigSep Finset.univ fun c : Dev nD => sendToks c) ∗ bigSep Finset.univ fun c : Dev nD => barToks c) := by
  unfold toks sendToks barToks
  rw [bigSep_sep', bigSep_sep', bigSep_sep', dealt (fun c j => dutyTok EX (barCell c) 0 j),
    bigSep_congr (s := Finset.univ) (fun (c : Dev nD) _ => recounted (F := F) (fun k : Fin 3 => dutyTok EX (rcvCell c k) 0 (0 : Fin 3))),
    dealt (fun c j => dutyTok EX (rcvCell c (opp j)) 0 (0 : Fin 3))]
  iintro ⟨H1, H2, H3⟩
  isplitl [H2 H3]; · isplitl [H2] <;> iassumption
  iexact H1

/-- What holds for good may be handed to every device. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : CellIx → ℕ) (c : Dev nD) : iprop(records m K ∗ posns c ∗ sendToks c ∗ barToks c ∗ spare c) ⊢ G' m c := by
  unfold G'
  iintro ⟨HR, Hp, Hs, Hb, Hsp⟩
  isplitl [HR Hp Hs]
  · iexists K
    isplitl [HR]; · iexact HR
    isplitl [Hp] <;> iassumption
  isplitl [Hb] <;> iassumption

theorem regroup :
    (bigSep Finset.univ fun c : Dev nD => iprop((bigSep Finset.univ fun x => iprop(∃ κ : ℕ, cellInv EX (sched m) κ (cellAt (c, x))))
          ∗ (bigSep Finset.univ fun x => iprop(atPos EX (cellAt (c, x)) 0 ∅ 0 ∗ reached EX (cellAt (c, x)) 0)) ∗ toks c ∗ spare c) : sProp 𝕄)
      ⊢ bigSep Finset.univ (G' m) := by
  have hp : (bigSep Finset.univ fun c : Dev nD => bigSep Finset.univ fun x => (atPos EX (cellAt (c, x)) 0 ∅ 0 : sProp 𝕄))
      ⊢ bigSep Finset.univ fun c : Dev nD => (posns c : sProp 𝕄) :=
    bigSep_mono fun c _ => show (bigSep Finset.univ fun x => (atPos EX (cellAt (c, x)) 0 ∅ 0 : sProp 𝕄)) ⊢ posns c from
      Entails.of_eq (by unfold posns; rw [bigSep_cells]; rfl)
  rw [bigSep_sep', bigSep_sep', bigSep_sep', ← bigSep_univ_prod (fun x : CellIx => iprop(∃ κ : ℕ, cellInv EX (sched m) κ (cellAt x))),
    bigSep_congr (s := Finset.univ) (fun (c : Dev nD) _ => bigSep_sep' Finset.univ (fun x => (atPos EX (cellAt (c, x)) 0 ∅ 0 : sProp 𝕄)) (fun x => reached EX (cellAt (c, x)) 0)),
    bigSep_sep', ← bigSep_univ_prod (fun x : CellIx => (reached EX (cellAt x) 0 : sProp 𝕄))]
  iintro ⟨HI, ⟨Hat, #HR⟩, Htok, Hsp⟩
  ihave HK := (BI.bigSep_exists_pi Finset.univ (fun (x : CellIx) (κ : ℕ) => (cellInv EX (sched m) κ (cellAt x) : sProp 𝕄))) $$ HI
  icases HK with ⟨%K, #HI⟩
  ihave Htk := (toks_dealt (F := F)) $$ Htok
  icases Htk with ⟨Hs, Hb⟩
  iapply (to_each (R := records m K) (Φ := fun c => iprop(posns c ∗ sendToks c ∗ barToks c ∗ spare c)) fun c _ => G'_intro m K c)
  isplitr
  · unfold records; isplitl; · iexact HI
    iexact HR
  · rw [bigSep_sep', bigSep_sep', bigSep_sep']
    isplitl [Hat]
    · iapply hp
      iexact Hat
    isplitl [Hs]; · iexact Hs
    isplitl [Hb] <;> iassumption

/-- All devices together reach the records. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => put_under_schedule m c).trans (bigSep_fupd _ _)).trans (BI.fupd_mono (regroup m))

/-! ## What is owed to a device at the start -/

theorem bar_inj {a b : Dev nD} : barCell a = barCell b ↔ a = b :=
  ⟨fun h => congrArg (fun g : GSem nD τ sig => g.1.1) h, fun h => h ▸ rfl⟩
theorem rcv_inj {a b : Dev nD} {k k' : Fin 3} : rcvCell a k = rcvCell b k' ↔ a = b ∧ k = k' := by
  constructor
  · intro h
    have h1 : a = b := congrArg (fun g : GSem nD τ sig => g.1.1) h
    have h2 : semAt (some (true, k)) = semAt (some (true, k')) := congrArg Prod.snd h
    have h3 := semAt_injective h2
    exact ⟨h1, by injection h3 with h3; exact congrArg Prod.snd h3⟩
  · rintro ⟨rfl, rfl⟩; rfl
theorem bar_ne_rcv {a b : Dev nD} {k : Fin 3} : barCell a ≠ rcvCell b k := fun h => by
  have h2 : (SemLoc.reg barS : SemLoc sig) = .dma (rcvS k) := congrArg Prod.snd h
  cases h2

theorem sum_bar_bar (c : Dev nD) (j : Fin 3) : ∑ d : Dev nD, owesBar d j (barCell c) () = 1 := by
  have h (d : Dev nD) : owesBar d j (barCell c) () = if d = fwd (opp j) c then 1 else 0 := by
    unfold owesBar
    rw [tallyAt_apply]
    exact if_congr ⟨fun h => (fwd_eq_iff j d c).mp (bar_inj.mp h.1).symm, fun h => ⟨bar_inj.mpr ((fwd_eq_iff j d c).mpr h).symm, rfl⟩⟩ rfl rfl
  rw [Finset.sum_congr rfl fun d _ => h d, Finset.sum_ite_eq' Finset.univ _ fun _ => 1, if_pos (Finset.mem_univ _)]
theorem sum_rcv_bar (c : Dev nD) (j : Fin 3) : ∑ d : Dev nD, owesRcv d j (barCell c) () = 0 :=
  Finset.sum_eq_zero fun d _ => by unfold owesRcv; rw [tallyAt_ne_cell bar_ne_rcv]; rfl
theorem sum_bar_rcv (c : Dev nD) (k j : Fin 3) : ∑ d : Dev nD, owesBar d j (rcvCell c k) () = 0 :=
  Finset.sum_eq_zero fun d _ => by unfold owesBar; rw [tallyAt_ne_cell bar_ne_rcv.symm]; rfl
theorem sum_rcv_rcv (c : Dev nD) (k j : Fin 3) : ∑ d : Dev nD, owesRcv d j (rcvCell c k) () = if k = opp j then N else 0 := by
  have h (d : Dev nD) : owesRcv d j (rcvCell c k) () = if d = fwd (opp j) c then (if k = opp j then N else 0) else 0 := by
    unfold owesRcv
    rw [tallyAt_apply, ← ite_and]
    exact if_congr ⟨fun h => ⟨(fwd_eq_iff j d c).mp (rcv_inj.mp h.1).1.symm, (rcv_inj.mp h.1).2⟩,
      fun h => ⟨rcv_inj.mpr ⟨((fwd_eq_iff j d c).mpr h.1).symm, h.2⟩, rfl⟩⟩ rfl rfl
  rw [Finset.sum_congr rfl fun d _ => h d, Finset.sum_ite_eq' Finset.univ _ fun _ => _, if_pos (Finset.mem_univ _)]

theorem sum_owed (g : GSem nD τ sig) : ∑ d : Dev nD, O₀ d g () = (∑ d, owesRcv d 2 g ()) + (∑ d, owesRcv d 1 g ()) + (∑ d, owesRcv d 0 g ())
    + (∑ d, owesBar d 2 g ()) + (∑ d, owesBar d 1 g ()) + (∑ d, owesBar d 0 g ()) := by
  simp only [← Finset.sum_add_distrib]
  rfl

/-- Three units at the barrier, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, sum_owed]
  simp only [sum_bar_bar, sum_rcv_bar]
/-- and a transfer's worth in each of the slots 1, 2 and 3. -/
theorem launch_rcv (c : Dev nD) (k : Fin 3) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, sum_owed]
  simp only [sum_bar_rcv, sum_rcv_rcv, Nat.add_zero]
  have h : ∀ (k : Fin 3) (n : ℕ), (if k = opp 2 then n else 0) + (if k = opp 1 then n else 0) + (if k = opp 0 then n else 0) = n := by
    intro k n
    fin_cases k
    · exact (Nat.add_zero _).trans (Nat.add_zero n)
    · exact (Nat.add_zero _).trans (Nat.zero_add n)
    · exact Nat.zero_add n
  exact h k N

def rcvSems : Finset (SemLoc sig) := Finset.univ.map ⟨fun k : Fin 3 => semAt (some (true, k)), fun k k' h => by
  have h3 := semAt_injective h
  injection h3 with h3; exact congrArg Prod.snd h3⟩

theorem creds (c : Dev nD) : (Pipeline.launchCred O₀ c : sProp 𝕄) ⊢ due c := by
  unfold Pipeline.launchCred due
  rw [bigSep_univ_at _ (SemLoc.reg barS), launch_bar]
  refine sep_mono_right ((bigSep_subset (t := rcvSems) (by decide)).trans ?_)
  unfold rcvSems
  rw [bigSep_map]
  exact bigSep_mono fun k _ => Entails.of_eq (congrArg cred (launch_rcv c k))

/-! ## The run -/

/-- What device `c` starts with. -/
def start (c : Dev nD) : sProp 𝕄 := iprop((∃ K, held m K c) ∗ barToks c ∗ spare c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start held
  iintro ⟨-, Hlev, Hcr, -, ⟨⟨%K, HR, Hp, Hs⟩, Hb, Hsp⟩⟩
  ihave Hc := (creds (F := F) c) $$ Hcr
  imodintro
  isplitl
  · isplitl [HR Hlev Hp Hs Hc]
    · iexists K
      isplitl [HR]; · iexact HR
      isplitl [Hlev]; · iexact Hlev
      isplitl [Hp]; · iexact Hp
      isplitl [Hs] <;> iassumption
    isplitl [Hb] <;> iassumption
  · iempintro

theorem phase_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phase m c 0 from rfl, phase_start, scopedRest0_eq]
  unfold start scratch
  iintro ⟨⟨Hh, Hb, Hsp⟩, -, Hr⟩
  isplitl [Hh]; · iexact Hh
  isplitl [Hb]; · iexact Hb
  isplitl [Hr] <;> iassumption

theorem phase_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phase m c 4 from rfl, phase_end, scopedRest0_eq, ownSems0_eq, unscopedSems0_eq]
  unfold closed scratch
  iintro ⟨⟨HB, HS, HV⟩, Hr, Hsp⟩
  isplitl [HB]; · iexact HB
  isplitl [Hsp HS HV]
  · isplitl [Hsp]; · iexact Hsp
    isplitl [HS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      obtain ⟨n, hn⟩ := t
      match n, hn with
      | 0, _ => exact Or.inl rfl
      | 1, _ => exact Or.inr (Or.inl rfl)
      | 2, _ => exact Or.inr (Or.inl rfl)
      | 3, _ => exact Or.inr (Or.inl rfl)
      | 4, _ => exact Or.inr (Or.inr rfl))

/-- The contents of a window's array after the run. -/
def finalA (c : Dev nD) (w : Fin cfg0.W) : Buf (Elt F) ((cfg0.win w).arr.view.loc (c : Thread nD τ)) := (dats m 0 c).arrAt w cfg0.N

set_option maxRecDepth 8000 in
/-- Every run, from any memory and with all semaphores at zero, ends; it ends with each device's argument and result arrays
    holding `finalA`, and with all semaphores at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phase_intro m) (hout := phase_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it began. -/
theorem final_arg (c : Dev nD) : finalA m c 0 = m ((c : Thread nD τ).loc main_arg0) :=
  (dats m 0 c).arrAt_in 0 rfl _

end Cert.KernelIdealProof

end
-- ==== Proof.RefRun.lean ====
/-
The reference: six host operations in a row, and what they leave in the result array.
-/
module

public import proofs.«01_k».proof.Proof.Gen.ReferenceIdeal
public import Idealize.ShloMosaic.Lib.StableHlo.Run
public import Idealize.ShloMosaic.Lib.Tactic
public import Idealize.ShloMosaic.Lib.Quiescent

@[expose] public section

noncomputable section

namespace Cert.ReferenceIdealProof

open Cert.ReferenceIdeal Cert.ReferenceIdeal.Gen Idealize.ShloMosaic.StableHlo

open Idealize.ShloMosaic Idealize.ShloMosaic.TcCoe Idealize.SL.Sem

variable {F : FTy → Type} [FloatOps F]
variable (m : (ℓ : Loc nD τ sig) → Buf (Elt F) ℓ) (ρ : Dev nD → PrngReg)

/-- The reference's operations in program order. -/
def steps : List (HloOp τ sig (Elt F)) :=
  [nullary main_cst (constant S_ .f32 0x00000000#32),
   binary main_arg0 main_cst main_v0 (fun x v => Host.reduceAdd x v reducesTo_S6144x768_S768_d0 h_S_),
   unary main_v0 main_v1 (broadcastInDim S1x768 ![1] bcast_S768_S1x768_1),
   nullary main_cst_0 (constant S_ .f32 0x45C00000#32),
   unary main_cst_0 main_v2 (broadcastInDim S1x768 ![] bcast_S_S1x768),
   binary main_v1 main_v2 main_v3 Host.divf]

theorem main_steps (c : Dev nD) : main (F := F) c = seq steps := rfl

theorem no_scoped_refs : (Finset.univ.filter fun b : Ref sig .tc => b.isScoped) = ∅ := by decide

theorem no_scoped_sems : (Finset.univ.filter fun sm : SemLoc sig => sm.isScoped .tc) = ∅ := by decide

theorem steps_bufs : (steps : List (HloOp τ sig (Elt F))).Forall fun op => op.bufs ⊆ tcRefs τ sig :=
  ⟨nullary_bufs_sub .., binary_bufs_sub .., unary_bufs_sub .., nullary_bufs_sub .., unary_bufs_sub ..,
    binary_bufs_sub ..⟩

/-- The mean over the rows as the reference writes it: the column sums from zero, each divided by 6144. -/
def mean (x : Vec F S6144x768 .f32) : Vec F S1x768 .f32 :=
  Host.divf
    (broadcastInDim S1x768 ![1] bcast_S768_S1x768_1
      (Host.reduceAdd x (constant S_ .f32 0x00000000#32) reducesTo_S6144x768_S768_d0 h_S_))
    (broadcastInDim S1x768 ![] bcast_S_S1x768 (constant S_ .f32 0x45C00000#32))

/-- Every run of the reference ends with the mean in its result array and its argument unchanged. -/
theorem run : θ_run defs (onTc (τ := τ) (main (F := F))) ⟨m, fun _ => 0, ρ⟩ fun r =>
      r.2.mem (((0 : Dev nD) : Thread nD τ).loc main_v3) = mean (m (((0 : Dev nD) : Thread nD τ).loc main_arg0))
      ∧ r.2.mem (((0 : Dev nD) : Thread nD τ).loc main_arg0) = m (((0 : Dev nD) : Thread nD τ).loc main_arg0) :=
  (θ_run defs _ _).mono
    (fun _ h => ⟨(h 0 main_v3).trans (by unfold steps; after_results; rfl),
      (h 0 main_arg0).trans (by unfold steps; after_results)⟩)
    (run_seq no_scoped_refs no_scoped_sems defs main (fun _ => steps) main_steps (fun _ => steps_bufs) m ρ)

/-- The reference has no semaphore, so its runs are quiescent. -/
theorem run_quiet : θ_run defs (onTc (τ := τ) (main (F := F))) ⟨m, fun _ => 0, ρ⟩ fun r =>
      (∀ c : Dev nD, r.2.mem (c.tc.loc main_arg0) = m (c.tc.loc main_arg0)) ∧ r.2.sem = fun _ => 0 :=
  (θ_run defs _ _).mono
    (fun r h => ⟨fun c => by obtain rfl : c = 0 := Subsingleton.elim _ _; exact h.2,
      sem_eq_zero_of_no_sems (by decide) r.2⟩)
    (run m ρ)

end Cert.ReferenceIdealProof

end
-- ==== Proof.IdealValue.lean ====
/-
The value: what the kernel leaves in every device's result array, and that over the extended reals it is the mean the
reference computes.
-/
module

public import proofs.«01_k».proof.Proof.IdealRun
public import proofs.«01_k».proof.Proof.RefRun
public import Idealize.ShloMosaic.Lib.Pipeline.ValueKit
public import Idealize.ShloMosaic.Lib.Pointwise
public import Idealize.ShloMosaic.Lib.Layout

@[expose] public section

noncomputable section

namespace Cert.KernelIdealProof

open Cert.KernelIdeal Cert.KernelIdeal.Gen

open Idealize.ShloMosaic Idealize.ShloMosaic.TcCoe Idealize.SL.Sem

/-! ## The result array -/

section Any

variable {F : FTy → Type} [FloatOps F] [Named F]
variable (m : (ℓ : Loc nD τ sig) → Buf (Elt F) ℓ) (ρ : Dev nD → PrngReg)

/-- The result array is written back once, whole, after the last point: it ends at the value the last point leaves. -/
theorem final_result (c : Dev nD) : finalA m c 1 = result m c :=
  (dats m 0 c).arrAt_eq_of_after_last 1 t0_3 (by decide +kernel) _ fun j => by blk_simp; rfl

/-- Row `r` of point `t`'s block is row `384 t + r` of the device's argument. -/
theorem rows_apply (c : Dev nD) (n : ℕ) (hn : n < 4) (r : Fin 384) (l : Fin 768) :
    rows m c (pt n) (ix2 r l) = m (c.tc.loc main_arg0) (ix2 (n0 := 1536) ⟨384 * n + r.val, by omega⟩ l) := by
  have hi : win0_0.index (pt n) 0 = n ∧ win0_0.index (pt n) 1 = 0 := by
    interval_cases n <;> decide
  unfold rows iblk
  rw [View.read_apply]
  show V m c main_arg0 _ = m (c.tc.loc main_arg0) _
  unfold V
  congr 1
  funext a
  apply Fin.ext
  match a with
  | ⟨0, _⟩ => show win0_0.index (pt n) 0 * 384 + 1 * r.val = 384 * n + r.val; rw [hi.1]; omega
  | ⟨1, _⟩ => show win0_0.index (pt n) 1 * 768 + 1 * l.val = l.val; rw [hi.2]; omega

end Any

/-! ## Over the extended reals -/

variable (m : (ℓ : Loc nD τ sig) → Buf (Elt Ideal) ℓ) (ρ : Dev nD → PrngReg)

theorem pay1_apply (v : Vec Ideal S384x768 .f32) (l : Fin 768) :
    k0_pay1 v (ix2 0 l) = ∑ r : Fin 384, v (ix2 r l) := by
  unfold k0_pay1
  simp only [pointwise]

theorem pay2_apply (v : Vec Ideal S384x768 .f32) (l : Fin 768) :
    k0_pay2 v (ix3 0 0 l) = ∑ r : Fin 384, v (ix2 r l) := by
  rw [← pay1_apply]
  unfold k0_pay2
  simp only [pointwise]

theorem pay3_apply (v : Vec Ideal S384x768 .f32) (w : Vec Ideal S1x1x768 .f32) (l : Fin 768) :
    k0_pay3 v w (ix3 0 0 l) = w (ix3 0 0 l) + ∑ r : Fin 384, v (ix2 r l) := by
  rw [← pay1_apply]
  unfold k0_pay3
  simp only [pointwise]

theorem pay4_apply (a b c d : Vec Ideal S1x1x768 .f32) (l : Fin 768) :
    k0_pay4 a b c d (ix2 0 l)
      = (a (ix3 0 0 l) + b (ix3 0 0 l) + c (ix3 0 0 l) + d (ix3 0 0 l)) * ((6144⁻¹ : ℝ) : EReal) := by
  have hn : Named.named (F := Ideal) κ "inv_m" (φ := .f32) 0x392AAAAB#32 = ((6144⁻¹ : ℝ) : EReal) :=
    IdealRules.named_const.ideal_named_scalar _ _ _ _ rfl
  unfold k0_pay4
  simp only [pointwise, hn]

theorem upTo_succ (c : Dev nD) (n : ℕ) : upTo m c (n + 1) = k0_pay3 (rows m c (pt (n + 1))) (upTo m c n) := rfl

/-- After point `n` the accumulator holds, column by column, the sum of the rows of the points so far. -/
theorem upTo_apply (c : Dev nD) (l : Fin 768) (n : ℕ) :
    upTo m c n (ix3 0 0 l) = ∑ t : Fin (n + 1), ∑ r : Fin 384, rows m c (pt t.val) (ix2 r l) := by
  induction n with
  | zero => rw [Fin.sum_univ_one]; exact pay2_apply _ _
  | succ n ih => rw [Fin.sum_univ_castSucc, upTo_succ, pay3_apply, ih]; rfl

/-- A sum over `a * b` positions, cut into `a` runs of `b`. -/
theorem sum_runs (a b n : ℕ) (h : a * b = n) (f : Fin n → EReal) :
    ∑ k : Fin n, f k = ∑ i : Fin a, ∑ j : Fin b, f ⟨b * i.val + j.val, by
      rw [← h]
      calc b * i.val + j.val < b * i.val + b := by have := j.isLt; omega
        _ = (i.val + 1) * b := by ring
        _ ≤ a * b := Nat.mul_le_mul_right _ i.isLt⟩ := by
  subst h
  rw [← finProdFinEquiv.sum_comp, Fintype.sum_prod_type]
  refine Finset.sum_congr rfl fun i _ => Finset.sum_congr rfl fun j _ => congrArg f (Fin.ext ?_)
  show j.val + b * i.val = b * i.val + j.val
  omega

/-- Row `k`, column `l` of device `c`'s argument. -/
def cell (c : Dev nD) (k : Fin 1536) (l : Fin 768) : EReal := m (c.tc.loc main_arg0) (ix2 (n0 := 1536) k l)

/-- A device's total is the sum of its argument's 1536 rows. -/
theorem total_apply (c : Dev nD) (l : Fin 768) :
    total m c (ix3 0 0 l) = ∑ k : Fin 1536, cell m c k l := by
  show upTo m c 3 (ix3 0 0 l) = _
  rw [upTo_apply, sum_runs 4 384 1536 (by norm_num)]
  exact Finset.sum_congr rfl fun t _ => Finset.sum_congr rfl fun r _ => rows_apply m c t.val t.isLt r l

/-- Starting from any device and going once around the ring is a sum over all four. -/
theorem ring_sum (g : Dev nD → EReal) (c : Dev nD) :
    g c + g (fwd 0 c) + g (fwd 1 c) + g (fwd 2 c) = ∑ d : Dev nD, g d := by
  have h : ∑ d : Dev nD, g d = g 0 + g 1 + g 2 + g 3 := Fin.sum_univ_four g
  rw [h]
  have e : ∀ d : Dev nD, (d, fwd 0 d, fwd 1 d, fwd 2 d) = (0, 1, 2, 3) ∨ (d, fwd 0 d, fwd 1 d, fwd 2 d) = (1, 2, 3, 0)
      ∨ (d, fwd 0 d, fwd 1 d, fwd 2 d) = (2, 3, 0, 1) ∨ (d, fwd 0 d, fwd 1 d, fwd 2 d) = (3, 0, 1, 2) := by decide
  simp only [Prod.mk.injEq] at e
  rcases e c with ⟨h0, h1, h2, h3⟩ | ⟨h0, h1, h2, h3⟩ | ⟨h0, h1, h2, h3⟩ | ⟨h0, h1, h2, h3⟩ <;>
    rw [h1, h2, h3, h0] <;> ac_rfl

/-- Every device ends with 1/6144 of the column sums over all devices' rows. -/
theorem result_apply (c : Dev nD) (l : Fin 768) :
    result m c (ix2 0 l)
      = (∑ d : Dev nD, ∑ k : Fin 1536, cell m d k l) * ((6144⁻¹ : ℝ) : EReal) := by
  show k0_pay4 (total m c) (total m (fwd 0 c)) (total m (fwd 1 c)) (total m (fwd 2 c)) (ix2 0 l) = _
  rw [pay4_apply, ring_sum (fun d => total m d (ix3 0 0 l)) c]
  exact congrArg (· * _) (Finset.sum_congr rfl fun d _ => total_apply m d l)

/-- The divisor the reference prints. -/
theorem divisor : Ideal.ofBits .f32 0x45C00000#32 = ((6144 : ℝ) : EReal) := by
  simp [Ideal.ofBits, Ideal.ieee, -EReal.coe_mul]; norm_num

/-- The reference's mean, column by column. -/
theorem mean_apply (x : Vec Ideal Cert.ReferenceIdeal.S6144x768 .f32) (l : Fin 768) :
    Cert.ReferenceIdealProof.mean x (ix2 0 l)
      = (∑ k : Fin 6144, x (ix2 k l)) * ((6144⁻¹ : ℝ) : EReal) := by
  unfold Cert.ReferenceIdealProof.mean
  simp only [pointwise, divisor, Ideal.div_coe (by norm_num : (6144 : ℝ) ≠ 0), one_div, zero_add]
  rfl

/-- When each device holds its quarter of the rows of `x`, every device's result is the reference's mean of `x`. -/
theorem result_eq_mean (x : Vec Ideal Cert.ReferenceIdeal.S6144x768 .f32)
    (hx : ∀ c : Dev nD, m (c.tc.loc main_arg0) = Layout.block ⟨2, ![1536, 768]⟩ ⟨2, ![6144, 768]⟩ 0 4 c x) (c : Dev nD) :
    result m c = Cert.ReferenceIdealProof.mean x := by
  funext j
  obtain ⟨l, rfl⟩ : ∃ l : Fin 768, j = ix2 (n0 := 1) 0 l :=
    ⟨j 1, by rw [← ix2_eta j]; congr 1; exact Subsingleton.elim (α := Fin 1) _ _⟩
  rw [result_apply, mean_apply, sum_runs 4 1536 6144 (by norm_num) fun k => x (ix2 k l)]
  refine congrArg (· * _) (Finset.sum_congr rfl fun d _ => Finset.sum_congr rfl fun k _ => ?_)
  unfold cell
  rw [hx d, Layout.block_apply]
  congr 1
  funext a
  apply Fin.ext
  match a with
  | ⟨0, _⟩ => show d.val * 1536 + k.val = 1536 * d.val + k.val; omega
  | ⟨1, _⟩ => rfl

/-- Every run of the kernel leaves, on every device, the result above and the argument as it was. -/
theorem run_result : θ_run defs (onTc (τ := τ) (main (F := Ideal))) ⟨m, fun _ => 0, ρ⟩ fun r => ∀ c : Dev nD,
      r.2.mem (c.tc.loc main_v1) = result m c ∧ r.2.mem (c.tc.loc main_arg0) = m (c.tc.loc main_arg0) :=
  (θ_run defs _ _).mono
    (fun _ h c => ⟨(h.1 c 1).trans (final_result m c), (h.1 c 0).trans (final_arg m c)⟩) (run_main m ρ)

end Cert.KernelIdealProof

end
-- ==== Proof.lean ====
/-
The five claims: the kernel and its ideal form run to the end with their arguments and semaphores as they were, the
reference does too, the ideal form is the kernel's, and over the extended reals kernel and reference compute one function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.IdealValue
public import Idealize.ShloMosaic.Adequacy
public import Idealize.ShloMosaic.Init

@[expose] public section

noncomputable section

namespace Cert.Proof

open Idealize.ShloMosaic Idealize.SL.Sem

/-- Every run of the kernel ends, without fault, with its argument unchanged and every semaphore at zero. -/
theorem frame_kernel : Cert.quiescent_Kernel := fun m ρ _ =>
  (θ_run Cert.Kernel.defs _ _).mono
    (fun _ h => ⟨fun c => (h.1 c 0).trans (Cert.KernelProof.final_arg m c), h.2⟩)
    (Cert.KernelProof.run_main (F := Bits) m ρ)

/-- The same over the extended reals. -/
theorem frame_ideal : Cert.quiescent_KernelIdeal := fun m ρ _ =>
  (θ_run Cert.KernelIdeal.defs _ _).mono
    (fun _ h => ⟨fun c => (h.1 c 0).trans (Cert.KernelIdealProof.final_arg m c), h.2⟩)
    (Cert.KernelIdealProof.run_main (F := Ideal) m ρ)

/-- The same of the reference, which has no semaphore. -/
theorem frame_reference : Cert.quiescent_ReferenceIdeal := fun m ρ _ =>
  Cert.ReferenceIdealProof.run_quiet (F := Ideal) m ρ

/-- The one named constant stands for 1/6144. -/
theorem preserves : Cert.preserves_Kernel_KernelIdeal :=
  IdealRules.named_const.statement Cert.KernelIdeal.κ "inv_m" .f32 0x392AAAAB#32 ((6144⁻¹ : ℝ) : EReal) rfl

/-- Over the extended reals every device's result is the reference's mean over all rows. -/
theorem algebraic : Cert.algebraic_KernelIdeal_ReferenceIdeal := fun m ρ m' ρ' _ hagree =>
  ⟨_, (θ_run Cert.KernelIdeal.defs _ _).mono
      (fun _ h c => ⟨((h c).1).trans (Cert.KernelIdealProof.result_eq_mean m _ hagree c), (h c).2⟩)
      (Cert.KernelIdealProof.run_result m ρ),
    Cert.ReferenceIdealProof.run (F := Ideal) m' ρ'⟩

theorem claim : Cert.Claim := ⟨Cert.Kernel.Gen.facts, Cert.KernelIdeal.Gen.facts, Cert.ReferenceIdeal.Gen.facts,
  frame_kernel, frame_ideal, frame_reference, preserves, algebraic⟩

end Cert.Proof

end
